-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_work_list : Cert.Pre_work_list.Facts] (m : (ℓ : Loc Cert.Kernel2.nD Cert.Kernel2.τ Cert.Kernel2.sig) → Buf (Elt Bits) ℓ) : Prop :=
  ∀ c : Dev Cert.Kernel2.nD,
    (Cert.Pre_work_list.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).1 = (fun _ => 1#1)
    ∧ (Cert.Pre_work_list.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2 = (fun _ => 1#1)

def Pre_Kernel2Ideal [hPre_work_list : Cert.Pre_work_list.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_work_list.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_work_list.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2 = (fun _ => 1#1)

def Pre_Reference2Ideal [hPre_work_list : Cert.Pre_work_list.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_work_list.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_work_list.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_work_list : Cert.Pre_work_list.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_work_list : Cert.Pre_work_list.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] [hPre_work_list : Cert.Pre_work_list.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_latent_rows [hKernelIdeal : Cert.KernelIdeal.Facts] [hReferenceIdeal : Cert.ReferenceIdeal.Facts] [hOn_latent_rows : Cert.On_latent_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![36864, 1536]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.KernelIdeal.nD Cert.KernelIdeal.τ).loc Cert.KernelIdeal.main_v0) i = v0 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![36864, 1536]⟩ : Shape).Idx, (Cert.On_latent_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) i = 1#1 → r.2.mem ((c.tc : Thread Cert.ReferenceIdeal.nD Cert.ReferenceIdeal.τ).loc Cert.ReferenceIdeal.main_v91) i = v0 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_on_listed [hKernel2Ideal : Cert.Kernel2Ideal.Facts] [hReference2Ideal : Cert.Reference2Ideal.Facts] [hPre_work_list : Cert.Pre_work_list.Facts] [hOn_listed : Cert.On_listed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![43008, 4096]⟩ : Shape).Idx, (Cert.On_listed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) i = 1#1 → r.2.mem ((c.tc : Thread Cert.Kernel2Ideal.nD Cert.Kernel2Ideal.τ).loc Cert.Kernel2Ideal.main_v3) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![43008, 4096]⟩ : Shape).Idx, (Cert.On_listed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) i = 1#1 → r.2.mem ((c.tc : Thread Cert.Reference2Ideal.nD Cert.Reference2Ideal.τ).loc Cert.Reference2Ideal.main_v48) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_work_list : Cert.Pre_work_list.Facts) (hOn_latent_rows : Cert.On_latent_rows.Facts) (hOn_listed : Cert.On_listed.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_work_list := hPre_work_list)
    ∧ quiescent_Kernel2Ideal (hKernel2Ideal := hKernel2Ideal) (hPre_work_list := hPre_work_list)
    ∧ quiescent_Reference2Ideal (hReference2Ideal := hReference2Ideal) (hPre_work_list := hPre_work_list)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_on_latent_rows (hKernelIdeal := hKernelIdeal) (hReferenceIdeal := hReferenceIdeal) (hOn_latent_rows := hOn_latent_rows)
    ∧ preserves_Kernel2_Kernel2Ideal
    ∧ algebraic_Kernel2Ideal_Reference2Ideal_on_listed (hKernel2Ideal := hKernel2Ideal) (hReference2Ideal := hReference2Ideal) (hPre_work_list := hPre_work_list) (hOn_listed := hOn_listed)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== On_latent_rows.lean ====
abbrev S36864x3072 : Shape := ⟨2, ![36864, 3072]⟩
abbrev S12 : Shape := ⟨1, ![12]⟩
abbrev S36864x1536 : Shape := ⟨2, ![36864, 1536]⟩
abbrev S_ : Shape := ⟨0, ![]⟩

class Facts : Prop where
  bcast_S_S36864x1536 : S_.BroadcastsInDim S36864x1536 (![] : Fin 0 → Fin S36864x1536.rank)

variable [Facts]

def fn {F : FTy → Type} [FloatOps F] (main_arg0 : FVec F S36864x3072 .bf16) (main_arg1 : FVec F S12 .f32) : IVec S36864x1536 1 :=
  let main_v0 : IVec S36864x1536 32 := iotaInDim S36864x1536 32 0
  let main_c : IVec S_ 32 := constantI S_ 32 32768#32
  let main_v1 : IVec S36864x1536 32 := broadcastInDim S36864x1536 ![] bcast_S_S36864x1536 main_c
  let main_v2 : IVec S36864x1536 1 := cmpi .slt main_v0 main_v1
  main_v2
-- ==== On_listed.lean ====
abbrev S336 : Shape := ⟨1, ![336]⟩
abbrev S43008x2048 : Shape := ⟨2, ![43008, 2048]⟩
abbrev S4x16x2048x1024 : Shape := ⟨4, ![4, 16, 2048, 1024]⟩
abbrev S4x16x1024x2048 : Shape := ⟨4, ![4, 16, 1024, 2048]⟩
abbrev S336x1x1 : Shape := ⟨3, ![336, 1, 1]⟩
abbrev S168 : Shape := ⟨1, ![168]⟩
abbrev S1x168x1 : Shape := ⟨3, ![1, 168, 1]⟩
abbrev S336x168x1 : Shape := ⟨3, ![336, 168, 1]⟩
abbrev S2 : Shape := ⟨1, ![2]⟩
abbrev S1x1x2 : Shape := ⟨3, ![1, 1, 2]⟩
abbrev S336x1x2 : Shape := ⟨3, ![336, 1, 2]⟩
abbrev S336x168x2 : Shape := ⟨3, ![336, 168, 2]⟩
abbrev S_ : Shape := ⟨0, ![]⟩
abbrev S168x2 : Shape := ⟨2, ![168, 2]⟩
abbrev S168x1x2x1 : Shape := ⟨4, ![168, 1, 2, 1]⟩
abbrev S168x256x2x2048 : Shape := ⟨4, ![168, 256, 2, 2048]⟩
abbrev S43008x4096 : Shape := ⟨2, ![43008, 4096]⟩

class Facts : Prop where
  bcast_S336_S336x1x1_0 : S336.BroadcastsInDim S336x1x1 (![0] : Fin 1 → Fin S336x1x1.rank)
  bcast_S168_S1x168x1_1 : S168.BroadcastsInDim S1x168x1 (![1] : Fin 1 → Fin S1x168x1.rank)
  bcast_S336x1x1_S336x168x1_0_1_2 : S336x1x1.BroadcastsInDim S336x168x1 (![0, 1, 2] : Fin 3 → Fin S336x168x1.rank)
  bcast_S1x168x1_S336x168x1_0_1_2 : S1x168x1.BroadcastsInDim S336x168x1 (![0, 1, 2] : Fin 3 → Fin S336x168x1.rank)
  bcast_S2_S1x1x2_2 : S2.BroadcastsInDim S1x1x2 (![2] : Fin 1 → Fin S1x1x2.rank)
  bcast_S336x1x1_S336x1x2_0_1_2 : S336x1x1.BroadcastsInDim S336x1x2 (![0, 1, 2] : Fin 3 → Fin S336x1x2.rank)
  bcast_S1x1x2_S336x1x2_0_1_2 : S1x1x2.BroadcastsInDim S336x1x2 (![0, 1, 2] : Fin 3 → Fin S336x1x2.rank)
  bcast_S336x168x1_S336x168x2_0_1_2 : S336x168x1.BroadcastsInDim S336x168x2 (![0, 1, 2] : Fin 3 → Fin S336x168x2.rank)
  bcast_S336x1x2_S336x168x2_0_1_2 : S336x1x2.BroadcastsInDim S336x168x2 (![0, 1, 2] : Fin 3 → Fin S336x168x2.rank)
  reducesTo_S336x168x2_S168x2_d0 : S336x168x2.ReducesTo [0] S168x2
  h_S_ : 0 < S_.numel
  bcast_S168x2_S168x1x2x1_0_2 : S168x2.BroadcastsInDim S168x1x2x1 (![0, 2] : Fin 2 → Fin S168x1x2x1.rank)
  bcast_S168x1x2x1_S168x256x2x2048_0_1_2_3 : S168x1x2x1.BroadcastsInDim S168x256x2x2048 (![0, 1, 2, 3] : Fin 4 → Fin S168x256x2x2048.rank)
  shapeCasts_S168x256x2x2048_S43008x4096 : S168x256x2x2048.ShapeCasts S43008x4096

variable [Facts]

def fn {F : FTy → Type} [FloatOps F] (main_arg0 : IVec S336 32) (main_arg1 : IVec S336 32) (main_arg2 : IVec S336 32) (main_arg3 : IVec S336 32) (main_arg4 : FVec F S43008x2048 .f32) (main_arg5 : FVec F S4x16x2048x1024 .f32) (main_arg6 : FVec F S4x16x2048x1024 .f32) (main_arg7 : FVec F S4x16x1024x2048 .f32) : IVec S43008x4096 1 :=
  let main_v0 : IVec S336x1x1 32 := broadcastInDim S336x1x1 ![0] bcast_S336_S336x1x1_0 main_arg0
  let main_v1 : IVec S168 32 := iotaInDim S168 32 0
  let main_v2 : IVec S1x168x1 32 := broadcastInDim S1x168x1 ![1] bcast_S168_S1x168x1_1 main_v1
  let main_v3 : IVec S336x168x1 32 := broadcastInDim S336x168x1 ![0, 1, 2] bcast_S336x1x1_S336x168x1_0_1_2 main_v0
  let main_v4 : IVec S336x168x1 32 := broadcastInDim S336x168x1 ![0, 1, 2] bcast_S1x168x1_S336x168x1_0_1_2 main_v2
  let main_v5 : IVec S336x168x1 1 := cmpi .eq main_v3 main_v4
  let main_v6 : IVec S336x1x1 32 := broadcastInDim S336x1x1 ![0] bcast_S336_S336x1x1_0 main_arg2
  let main_v7 : IVec S2 32 := iotaInDim S2 32 0
  let main_v8 : IVec S1x1x2 32 := broadcastInDim S1x1x2 ![2] bcast_S2_S1x1x2_2 main_v7
  let main_v9 : IVec S336x1x2 32 := broadcastInDim S336x1x2 ![0, 1, 2] bcast_S336x1x1_S336x1x2_0_1_2 main_v6
  let main_v10 : IVec S336x1x2 32 := broadcastInDim S336x1x2 ![0, 1, 2] bcast_S1x1x2_S336x1x2_0_1_2 main_v8
  let main_v11 : IVec S336x1x2 1 := cmpi .eq main_v9 main_v10
  let main_v12 : IVec S336x168x2 1 := broadcastInDim S336x168x2 ![0, 1, 2] bcast_S336x168x1_S336x168x2_0_1_2 main_v5
  let main_v13 : IVec S336x168x2 1 := broadcastInDim S336x168x2 ![0, 1, 2] bcast_S336x1x2_S336x168x2_0_1_2 main_v11
  let main_v14 : IVec S336x168x2 1 := andi main_v12 main_v13
  let main_c : IVec S_ 1 := constantI S_ 1 0#1
  let main_v15 : IVec S168x2 1 := (fun x v => Host.reduce IntOp.ori x v reducesTo_S336x168x2_S168x2_d0 h_S_) main_v14 main_c
  let main_v16 : IVec S168x1x2x1 1 := broadcastInDim S168x1x2x1 ![0, 2] bcast_S168x2_S168x1x2x1_0_2 main_v15
  let main_v17 : IVec S168x256x2x2048 1 := broadcastInDim S168x256x2x2048 ![0, 1, 2, 3] bcast_S168x1x2x1_S168x256x2x2048_0_1_2_3 main_v16
  let main_v18 : IVec S43008x4096 1 := shapeCast S43008x4096 main_v17 shapeCasts_S168x256x2x2048_S43008x4096
  main_v18
-- ==== Pre_work_list.lean ====
abbrev S336 : Shape := ⟨1, ![336]⟩
abbrev S43008x2048 : Shape := ⟨2, ![43008, 2048]⟩
abbrev S4x16x2048x1024 : Shape := ⟨4, ![4, 16, 2048, 1024]⟩
abbrev S4x16x1024x2048 : Shape := ⟨4, ![4, 16, 1024, 2048]⟩
abbrev S_ : Shape := ⟨0, ![]⟩
abbrev S336x1 : Shape := ⟨2, ![336, 1]⟩
abbrev S1x336 : Shape := ⟨2, ![1, 336]⟩
abbrev S336x336 : Shape := ⟨2, ![336, 336]⟩

class Facts : Prop where
  bcast_S_S336 : S_.BroadcastsInDim S336 (![] : Fin 0 → Fin S336.rank)
  bcast_S336_S336x1_0 : S336.BroadcastsInDim S336x1 (![0] : Fin 1 → Fin S336x1.rank)
  bcast_S336_S1x336_1 : S336.BroadcastsInDim S1x336 (![1] : Fin 1 → Fin S1x336.rank)
  bcast_S336x1_S336x336_0_1 : S336x1.BroadcastsInDim S336x336 (![0, 1] : Fin 2 → Fin S336x336.rank)
  bcast_S1x336_S336x336_0_1 : S1x336.BroadcastsInDim S336x336 (![0, 1] : Fin 2 → Fin S336x336.rank)
  bcast_S_S336x1 : S_.BroadcastsInDim S336x1 (![] : Fin 0 → Fin S336x1.rank)

variable [Facts]

def fn_part2 {F : FTy → Type} [FloatOps F] (main_arg2 : IVec S336 32) (main_v22 : IVec S336 1) (main_v33 : IVec S336x336 1) (main_v38 : IVec S336x336 1) : IVec S336 1 × IVec S336x336 1 :=
  let main_v39 : IVec S336x336 1 := ori main_v33 main_v38
  let main_v40 : IVec S336x1 32 := broadcastInDim S336x1 ![0] bcast_S336_S336x1_0 main_arg2
  let main_v41 : IVec S1x336 32 := broadcastInDim S1x336 ![1] bcast_S336_S1x336_1 main_arg2
  let main_v42 : IVec S336x336 32 := broadcastInDim S336x336 ![0, 1] bcast_S336x1_S336x336_0_1 main_v40
  let main_v43 : IVec S336x336 32 := broadcastInDim S336x336 ![0, 1] bcast_S1x336_S336x336_0_1 main_v41
  let main_v44 : IVec S336x336 1 := cmpi .ne main_v42 main_v43
  let main_v45 : IVec S336x336 1 := ori main_v39 main_v44
  (main_v22, main_v45)

def fn_part1 {F : FTy → Type} [FloatOps F] (main_arg0 : IVec S336 32) (main_arg2 : IVec S336 32) (main_arg3 : IVec S336 32) (main_v16 : IVec S336 1) (main_c_5 : IVec S_ 32) : IVec S336 1 × IVec S336x336 1 :=
  let main_v17 : IVec S336 32 := broadcastInDim S336 ![] bcast_S_S336 main_c_5
  let main_v18 : IVec S336 1 := cmpi .sge main_arg3 main_v17
  let main_v19 : IVec S336 1 := andi main_v16 main_v18
  let main_c_6 : IVec S_ 32 := constantI S_ 32 2#32
  let main_v20 : IVec S336 32 := broadcastInDim S336 ![] bcast_S_S336 main_c_6
  let main_v21 : IVec S336 1 := cmpi .slt main_arg3 main_v20
  let main_v22 : IVec S336 1 := andi main_v19 main_v21
  let main_v23 : IVec S336 32 := iotaInDim S336 32 0
  let main_v24 : IVec S336x1 32 := broadcastInDim S336x1 ![0] bcast_S336_S336x1_0 main_v23
  let main_v25 : IVec S1x336 32 := broadcastInDim S1x336 ![1] bcast_S336_S1x336_1 main_v23
  let main_v26 : IVec S336x336 32 := broadcastInDim S336x336 ![0, 1] bcast_S336x1_S336x336_0_1 main_v24
  let main_v27 : IVec S336x336 32 := broadcastInDim S336x336 ![0, 1] bcast_S1x336_S336x336_0_1 main_v25
  let main_v28 : IVec S336x336 1 := cmpi .eq main_v26 main_v27
  let main_v29 : IVec S336x1 32 := broadcastInDim S336x1 ![0] bcast_S336_S336x1_0 main_arg3
  let main_c_7 : IVec S_ 32 := constantI S_ 32 0#32
  let main_v30 : IVec S336x1 32 := broadcastInDim S336x1 ![] bcast_S_S336x1 main_c_7
  let main_v31 : IVec S336x1 1 := cmpi .eq main_v29 main_v30
  let main_v32 : IVec S336x336 1 := broadcastInDim S336x336 ![0, 1] bcast_S336x1_S336x336_0_1 main_v31
  let main_v33 : IVec S336x336 1 := ori main_v28 main_v32
  let main_v34 : IVec S336x1 32 := broadcastInDim S336x1 ![0] bcast_S336_S336x1_0 main_arg0
  let main_v35 : IVec S1x336 32 := broadcastInDim S1x336 ![1] bcast_S336_S1x336_1 main_arg0
  let main_v36 : IVec S336x336 32 := broadcastInDim S336x336 ![0, 1] bcast_S336x1_S336x336_0_1 main_v34
  let main_v37 : IVec S336x336 32 := broadcastInDim S336x336 ![0, 1] bcast_S1x336_S336x336_0_1 main_v35
  let main_v38 : IVec S336x336 1 := cmpi .ne main_v36 main_v37
  fn_part2 (F := F) main_arg2 main_v22 main_v33 main_v38

def fn {F : FTy → Type} [FloatOps F] (main_arg0 : IVec S336 32) (main_arg1 : IVec S336 32) (main_arg2 : IVec S336 32) (main_arg3 : IVec S336 32) (main_arg4 : FVec F S43008x2048 .f32) (main_arg5 : FVec F S4x16x2048x1024 .f32) (main_arg6 : FVec F S4x16x2048x1024 .f32) (main_arg7 : FVec F S4x16x1024x2048 .f32) : IVec S336 1 × IVec S336x336 1 :=
  let main_c : IVec S_ 32 := constantI S_ 32 0#32
  let main_v0 : IVec S336 32 := broadcastInDim S336 ![] bcast_S_S336 main_c
  let main_v1 : IVec S336 1 := cmpi .sge main_arg0 main_v0
  let main_c_0 : IVec S_ 32 := constantI S_ 32 168#32
  let main_v2 : IVec S336 32 := broadcastInDim S336 ![] bcast_S_S336 main_c_0
  let main_v3 : IVec S336 1 := cmpi .slt main_arg0 main_v2
  let main_v4 : IVec S336 1 := andi main_v1 main_v3
  let main_c_1 : IVec S_ 32 := constantI S_ 32 0#32
  let main_v5 : IVec S336 32 := broadcastInDim S336 ![] bcast_S_S336 main_c_1
  let main_v6 : IVec S336 1 := cmpi .sge main_arg1 main_v5
  let main_v7 : IVec S336 1 := andi main_v4 main_v6
  let main_c_2 : IVec S_ 32 := constantI S_ 32 16#32
  let main_v8 : IVec S336 32 := broadcastInDim S336 ![] bcast_S_S336 main_c_2
  let main_v9 : IVec S336 1 := cmpi .slt main_arg1 main_v8
  let main_v10 : IVec S336 1 := andi main_v7 main_v9
  let main_c_3 : IVec S_ 32 := constantI S_ 32 0#32
  let main_v11 : IVec S336 32 := broadcastInDim S336 ![] bcast_S_S336 main_c_3
  let main_v12 : IVec S336 1 := cmpi .sge main_arg2 main_v11
  let main_v13 : IVec S336 1 := andi main_v10 main_v12
  let main_c_4 : IVec S_ 32 := constantI S_ 32 2#32
  let main_v14 : IVec S336 32 := broadcastInDim S336 ![] bcast_S_S336 main_c_4
  let main_v15 : IVec S336 1 := cmpi .slt main_arg2 main_v14
  let main_v16 : IVec S336 1 := andi main_v13 main_v15
  let main_c_5 : IVec S_ 32 := constantI S_ 32 0#32
  fn_part1 (F := F) main_arg0 main_arg2 main_arg3 main_v16 main_c_5
-- ==== Kernel.lean ====
abbrev S36864x3072 : Shape := ⟨2, ![36864, 3072]⟩
abbrev S12 : Shape := ⟨1, ![12]⟩
abbrev S36864x1536 : Shape := ⟨2, ![36864, 1536]⟩
abbrev S128x1536 : Shape := ⟨2, ![128, 1536]⟩
abbrev S128x512 : Shape := ⟨2, ![128, 512]⟩
abbrev S256x512 : Shape := ⟨2, ![256, 512]⟩
abbrev S384x640 : Shape := ⟨2, ![384, 640]⟩
abbrev S128x384 : Shape := ⟨2, ![128, 384]⟩
abbrev S128x128 : Shape := ⟨2, ![128, 128]⟩
abbrev S384x128 : Shape := ⟨2, ![384, 128]⟩
abbrev S256x128 : Shape := ⟨2, ![256, 128]⟩
abbrev S640x128 : Shape := ⟨2, ![640, 128]⟩
abbrev S384x1 : Shape := ⟨2, ![384, 1]⟩
abbrev S1 : Shape := ⟨1, ![1]⟩
abbrev S384 : Shape := ⟨1, ![384]⟩

abbrev nBuf : Space → Nat
  | .hbm => 3
  | .vmem => 20
  | .smem => 1
  | _ => 0

abbrev bufTy : (tb : Table) → Fin (tcTables nBuf tb) → BufTy
  | .hbm, ⟨0, _⟩ => ⟨S36864x3072, .bf16⟩
  | .hbm, ⟨1, _⟩ => ⟨S12, .f32⟩
  | .hbm, ⟨2, _⟩ => ⟨S36864x1536, .bf16⟩
  | .local _ .vmem, ⟨0, _⟩ => ⟨S128x1536, .bf16⟩
  | .local _ .vmem, ⟨1, _⟩ => ⟨S128x1536, .bf16⟩
  | .local _ .vmem, ⟨2, _⟩ => ⟨S128x512, .bf16⟩
  | .local _ .vmem, ⟨3, _⟩ => ⟨S128x512, .bf16⟩
  | .local _ .vmem, ⟨4, _⟩ => ⟨S128x512, .bf16⟩
  | .local _ .vmem, ⟨5, _⟩ => ⟨S128x512, .bf16⟩
  | .local _ .vmem, ⟨6, _⟩ => ⟨S128x512, .bf16⟩
  | .local _ .vmem, ⟨7, _⟩ => ⟨S128x512, .bf16⟩
  | .local _ .vmem, ⟨8, _⟩ => ⟨S256x512, .bf16⟩
  | .local _ .vmem, ⟨9, _⟩ => ⟨S256x512, .bf16⟩
  | .local _ .vmem, ⟨10, _⟩ => ⟨S128x512, .bf16⟩
  | .local _ .vmem, ⟨11, _⟩ => ⟨S128x512, .bf16⟩
  | .local _ .vmem, ⟨12, _⟩ => ⟨S128x512, .bf16⟩
  | .local _ .vmem, ⟨13, _⟩ => ⟨S128x512, .bf16⟩
  | .local _ .vmem, ⟨14, _⟩ => ⟨S128x512, .bf16⟩
  | .local _ .vmem, ⟨15, _⟩ => ⟨S128x512, .bf16⟩
  | .local _ .vmem, ⟨16, _⟩ => ⟨S256x512, .bf16⟩
  | .local _ .vmem, ⟨17, _⟩ => ⟨S256x512, .bf16⟩
  | .local _ .vmem, ⟨18, _⟩ => ⟨S128x1536, .bf16⟩
  | .local _ .vmem, ⟨19, _⟩ => ⟨S128x1536, .bf16⟩
  | .local _ .smem, ⟨0, _⟩ => ⟨S12, .f32⟩
  | _, _ => ⟨S36864x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 16], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c_m1_i32 : BitVec 32 := 4294967295#32
  let v1 : BitVec 32 := Scalar.addi arg1 c_m1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c3_i32 : BitVec 32 := 3#32
  let c0_i32_0 : BitVec 32 := 0#32
  ![v4.toNat, c3_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi arg1 c0_i32
  let c0_i32_0 : BitVec 32 := 0#32
  let c15_i32 : BitVec 32 := 15#32
  let v2 : BitVec 32 := Scalar.maxsi c0_i32_0 v1
  let v3 : BitVec 32 := Scalar.minsi c15_i32 v2
  let v4 : BitVec 32 := Scalar.addi v0 v3
  let c3_i32 : BitVec 32 := 3#32
  let c0_i32_1 : BitVec 32 := 0#32
  ![v4.toNat, c3_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c3_i32 : BitVec 32 := 3#32
  let c0_i32_0 : BitVec 32 := 0#32
  ![v4.toNat, c3_i32.toNat]

def cc0_transform_5 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c3_i32 : BitVec 32 := 3#32
  let c0_i32 : BitVec 32 := 0#32
  ![v0.toNat, c3_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c_m1_i32 : BitVec 32 := 4294967295#32
  let v1 : BitVec 32 := Scalar.addi arg1 c_m1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c4_i32 : BitVec 32 := 4#32
  let c0_i32_0 : BitVec 32 := 0#32
  ![v4.toNat, c4_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi arg1 c0_i32
  let c0_i32_0 : BitVec 32 := 0#32
  let c15_i32 : BitVec 32 := 15#32
  let v2 : BitVec 32 := Scalar.maxsi c0_i32_0 v1
  let v3 : BitVec 32 := Scalar.minsi c15_i32 v2
  let v4 : BitVec 32 := Scalar.addi v0 v3
  let c4_i32 : BitVec 32 := 4#32
  let c0_i32_1 : BitVec 32 := 0#32
  ![v4.toNat, c4_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c0_i32 : BitVec 32 := 0#32
  let c15_i32 : BitVec 32 := 15#32
  let v2 : BitVec 32 := Scalar.maxsi c0_i32 v1
  let v3 : BitVec 32 := Scalar.minsi c15_i32 v2
  let v4 : BitVec 32 := Scalar.addi v0 v3
  let c4_i32 : BitVec 32 := 4#32
  let c0_i32_0 : BitVec 32 := 0#32
  ![v4.toNat, c4_i32.toNat]

def cc0_transform_9 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c4_i32 : BitVec 32 := 4#32
  let c0_i32 : BitVec 32 := 0#32
  ![v0.toNat, c4_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S36864x3072 : Shape := ⟨2, ![36864, 3072]⟩
abbrev S12 : Shape := ⟨1, ![12]⟩
abbrev S32768x3072 : Shape := ⟨2, ![32768, 3072]⟩
abbrev S16x2048x3072 : Shape := ⟨3, ![16, 2048, 3072]⟩
abbrev S4096x3072 : Shape := ⟨2, ![4096, 3072]⟩
abbrev S16x256x3072 : Shape := ⟨3, ![16, 256, 3072]⟩
abbrev S16x2048x1536 : Shape := ⟨3, ![16, 2048, 1536]⟩
abbrev S16x16x128x4x3x128 : Shape := ⟨6, ![16, 16, 128, 4, 3, 128]⟩
abbrev S16x2048x512 : Shape := ⟨3, ![16, 2048, 512]⟩
abbrev S16x2048x4x128 : Shape := ⟨4, ![16, 2048, 4, 128]⟩
abbrev S16x256x512 : Shape := ⟨3, ![16, 256, 512]⟩
abbrev S16x256x4x128 : Shape := ⟨4, ![16, 256, 4, 128]⟩
abbrev S_ : Shape := ⟨0, ![]⟩
abbrev S16x2304x4x128 : Shape := ⟨4, ![16, 2304, 4, 128]⟩
abbrev S16x18x128x4x128 : Shape := ⟨5, ![16, 18, 128, 4, 128]⟩
abbrev S16x16x128x4x128 : Shape := ⟨5, ![16, 16, 128, 4, 128]⟩
abbrev S16x1x256x4x128 : Shape := ⟨5, ![16, 1, 256, 4, 128]⟩
abbrev S16x16x256x4x128 : Shape := ⟨5, ![16, 16, 256, 4, 128]⟩
abbrev S16x16x640x4x128 : Shape := ⟨5, ![16, 16, 640, 4, 128]⟩
abbrev S384 : Shape := ⟨1, ![384]⟩
abbrev S1x384 : Shape := ⟨2, ![1, 384]⟩
abbrev S128 : Shape := ⟨1, ![128]⟩
abbrev S128x1 : Shape := ⟨2, ![128, 1]⟩
abbrev S128x384 : Shape := ⟨2, ![128, 384]⟩
abbrev S16 : Shape := ⟨1, ![16]⟩
abbrev S16x1 : Shape := ⟨2, ![16, 1]⟩
abbrev S16x384 : Shape := ⟨2, ![16, 384]⟩
abbrev S1x128x384 : Shape := ⟨3, ![1, 128, 384]⟩
abbrev S16x1x384 : Shape := ⟨3, ![16, 1, 384]⟩
abbrev S16x128x384 : Shape := ⟨3, ![16, 128, 384]⟩
abbrev S16x128x256 : Shape := ⟨3, ![16, 128, 256]⟩
abbrev S16x128x640 : Shape := ⟨3, ![16, 128, 640]⟩
abbrev S16x16x4x640x128x3 : Shape := ⟨6, ![16, 16, 4, 640, 128, 3]⟩
abbrev S16x16x4x3x128x640 : Shape := ⟨6, ![16, 16, 4, 3, 128, 640]⟩
abbrev S1x16x1x1x128x640 : Shape := ⟨6, ![1, 16, 1, 1, 128, 640]⟩
abbrev S4x3 : Shape := ⟨2, ![4, 3]⟩
abbrev S1x1x4x3x1 : Shape := ⟨5, ![1, 1, 4, 3, 1]⟩
abbrev S16x16x4x3x128 : Shape := ⟨5, ![16, 16, 4, 3, 128]⟩
abbrev S16x16x4x3x128x1 : Shape := ⟨6, ![16, 16, 4, 3, 128, 1]⟩
abbrev S16x16x4x3x128x128 : Shape := ⟨6, ![16, 16, 4, 3, 128, 128]⟩
abbrev S32768x1536 : Shape := ⟨2, ![32768, 1536]⟩
abbrev S4096x1536 : Shape := ⟨2, ![4096, 1536]⟩
abbrev S36864x1536 : Shape := ⟨2, ![36864, 1536]⟩

abbrev nBuf : Space → Nat
  | .hbm => 112
  | .vmem => 0
  | .smem => 0
  | _ => 0

abbrev bufTy : (tb : Table) → Fin (tcTables nBuf tb) → BufTy
  | .hbm, ⟨0, _⟩ => ⟨S36864x3072, .bf16⟩
  | .hbm, ⟨1, _⟩ => ⟨S12, .f32⟩
  | .hbm, ⟨2, _⟩ => ⟨S36864x3072, .f32⟩
  | .hbm, ⟨3, _⟩ => ⟨S32768x3072, .f32⟩
  | .hbm, ⟨4, _⟩ => ⟨S16x2048x3072, .f32⟩
  | .hbm, ⟨5, _⟩ => ⟨S4096x3072, .f32⟩
  | .hbm, ⟨6, _⟩ => ⟨S16x256x3072, .f32⟩
  | .hbm, ⟨7, _⟩ => ⟨S16x2048x1536, .f32⟩
  | .hbm, ⟨8, _⟩ => ⟨S16x16x128x4x3x128, .f32⟩
  | .hbm, ⟨9, _⟩ => ⟨S16x2048x512, .f32⟩
  | .hbm, ⟨10, _⟩ => ⟨S16x2048x4x128, .f32⟩
  | .hbm, ⟨11, _⟩ => ⟨S16x2048x512, .f32⟩
  | .hbm, ⟨12, _⟩ => ⟨S16x2048x4x128, .f32⟩
  | .hbm, ⟨13, _⟩ => ⟨S16x256x512, .f32⟩
  | .hbm, ⟨14, _⟩ => ⟨S16x256x4x128, .f32⟩
  | .hbm, ⟨15, _⟩ => ⟨S16x256x512, .f32⟩
  | .hbm, ⟨16, _⟩ => ⟨S16x256x4x128, .f32⟩
  | .hbm, ⟨17, _⟩ => ⟨S_, .i32⟩
  | .hbm, ⟨18, _⟩ => ⟨S_, .f32⟩
  | .hbm, ⟨19, _⟩ => ⟨S16x2304x4x128, .f32⟩
  | .hbm, ⟨20, _⟩ => ⟨S16x18x128x4x128, .f32⟩
  | .hbm, ⟨21, _⟩ => ⟨S_, .i32⟩
  | .hbm, ⟨22, _⟩ => ⟨S_, .f32⟩
  | .hbm, ⟨23, _⟩ => ⟨S16x2304x4x128, .f32⟩
  | .hbm, ⟨24, _⟩ => ⟨S16x18x128x4x128, .f32⟩
  | .hbm, ⟨25, _⟩ => ⟨S16x16x128x4x128, .f32⟩
  | .hbm, ⟨26, _⟩ => ⟨S16x16x128x4x128, .f32⟩
  | .hbm, ⟨27, _⟩ => ⟨S16x16x128x4x128, .f32⟩
  | .hbm, ⟨28, _⟩ => ⟨S16x1x256x4x128, .f32⟩
  | .hbm, ⟨29, _⟩ => ⟨S16x16x256x4x128, .f32⟩
  | .hbm, ⟨30, _⟩ => ⟨S16x16x640x4x128, .f32⟩
  | .hbm, ⟨31, _⟩ => ⟨S16x16x128x4x128, .f32⟩
  | .hbm, ⟨32, _⟩ => ⟨S16x16x128x4x128, .f32⟩
  | .hbm, ⟨33, _⟩ => ⟨S16x16x128x4x128, .f32⟩
  | .hbm, ⟨34, _⟩ => ⟨S16x1x256x4x128, .f32⟩
  | .hbm, ⟨35, _⟩ => ⟨S16x16x256x4x128, .f32⟩
  | .hbm, ⟨36, _⟩ => ⟨S16x16x640x4x128, .f32⟩
  | .hbm, ⟨37, _⟩ => ⟨S384, .i32⟩
  | .hbm, ⟨38, _⟩ => ⟨S_, .i32⟩
  | .hbm, ⟨39, _⟩ => ⟨S384, .i32⟩
  | .hbm, ⟨40, _⟩ => ⟨S384, .i32⟩
  | .hbm, ⟨41, _⟩ => ⟨S1x384, .i32⟩
  | .hbm, ⟨42, _⟩ => ⟨S128, .i32⟩
  | .hbm, ⟨43, _⟩ => ⟨S128x1, .i32⟩
  | .hbm, ⟨44, _⟩ => ⟨S128x384, .i32⟩
  | .hbm, ⟨45, _⟩ => ⟨S128x384, .i32⟩
  | .hbm, ⟨46, _⟩ => ⟨S128x384, .i32⟩
  | .hbm, ⟨47, _⟩ => ⟨S128x384, .i32⟩
  | .hbm, ⟨48, _⟩ => ⟨S_, .i32⟩
  | .hbm, ⟨49, _⟩ => ⟨S128x384, .i32⟩
  | .hbm, ⟨50, _⟩ => ⟨S128x384, .i1⟩
  | .hbm, ⟨51, _⟩ => ⟨S16, .i32⟩
  | .hbm, ⟨52, _⟩ => ⟨S16x1, .i32⟩
  | .hbm, ⟨53, _⟩ => ⟨S_, .i32⟩
  | .hbm, ⟨54, _⟩ => ⟨S16x1, .i32⟩
  | .hbm, ⟨55, _⟩ => ⟨S16x1, .i32⟩
  | .hbm, ⟨56, _⟩ => ⟨S1x384, .i32⟩
  | .hbm, ⟨57, _⟩ => ⟨S16x384, .i32⟩
  | .hbm, ⟨58, _⟩ => ⟨S16x384, .i32⟩
  | .hbm, ⟨59, _⟩ => ⟨S16x384, .i32⟩
  | .hbm, ⟨60, _⟩ => ⟨S1x128x384, .i1⟩
  | .hbm, ⟨61, _⟩ => ⟨S_, .i32⟩
  | .hbm, ⟨62, _⟩ => ⟨S16x384, .i32⟩
  | .hbm, ⟨63, _⟩ => ⟨S16x384, .i1⟩
  | .hbm, ⟨64, _⟩ => ⟨S_, .i32⟩
  | .hbm, ⟨65, _⟩ => ⟨S16x384, .i32⟩
  | .hbm, ⟨66, _⟩ => ⟨S16x384, .i1⟩
  | .hbm, ⟨67, _⟩ => ⟨S16x384, .i1⟩
  | .hbm, ⟨68, _⟩ => ⟨S16x1x384, .i1⟩
  | .hbm, ⟨69, _⟩ => ⟨S16x128x384, .i1⟩
  | .hbm, ⟨70, _⟩ => ⟨S16x128x384, .i1⟩
  | .hbm, ⟨71, _⟩ => ⟨S16x128x384, .i1⟩
  | .hbm, ⟨72, _⟩ => ⟨S_, .i1⟩
  | .hbm, ⟨73, _⟩ => ⟨S16x128x256, .i1⟩
  | .hbm, ⟨74, _⟩ => ⟨S16x128x640, .i1⟩
  | .hbm, ⟨75, _⟩ => ⟨S16x16x4x640x128x3, .f32⟩
  | .hbm, ⟨76, _⟩ => ⟨S16x16x4x3x128x640, .f32⟩
  | .hbm, ⟨77, _⟩ => ⟨S_, .f32⟩
  | .hbm, ⟨78, _⟩ => ⟨S16x16x4x3x128x640, .f32⟩
  | .hbm, ⟨79, _⟩ => ⟨S16x16x4x3x128x640, .f32⟩
  | .hbm, ⟨80, _⟩ => ⟨S1x16x1x1x128x640, .i1⟩
  | .hbm, ⟨81, _⟩ => ⟨S_, .f32⟩
  | .hbm, ⟨82, _⟩ => ⟨S_, .f32⟩
  | .hbm, ⟨83, _⟩ => ⟨S16x16x4x3x128x640, .i1⟩
  | .hbm, ⟨84, _⟩ => ⟨S16x16x4x3x128x640, .f32⟩
  | .hbm, ⟨85, _⟩ => ⟨S16x16x4x3x128x640, .f32⟩
  | .hbm, ⟨86, _⟩ => ⟨S4x3, .f32⟩
  | .hbm, ⟨87, _⟩ => ⟨S1x1x4x3x1, .f32⟩
  | .hbm, ⟨88, _⟩ => ⟨S_, .f32⟩
  | .hbm, ⟨89, _⟩ => ⟨S16x16x4x3x128, .f32⟩
  | .hbm, ⟨90, _⟩ => ⟨S16x16x4x3x128, .f32⟩
  | .hbm, ⟨91, _⟩ => ⟨S16x16x4x3x128, .f32⟩
  | .hbm, ⟨92, _⟩ => ⟨S16x16x4x3x128x1, .f32⟩
  | .hbm, ⟨93, _⟩ => ⟨S16x16x4x3x128x640, .f32⟩
  | .hbm, ⟨94, _⟩ => ⟨S16x16x4x3x128x640, .f32⟩
  | .hbm, ⟨95, _⟩ => ⟨S16x16x4x3x128x640, .f32⟩
  | .hbm, ⟨96, _⟩ => ⟨S_, .f32⟩
  | .hbm, ⟨97, _⟩ => ⟨S16x16x4x3x128, .f32⟩
  | .hbm, ⟨98, _⟩ => ⟨S16x16x4x3x128, .f32⟩
  | .hbm, ⟨99, _⟩ => ⟨S16x16x4x3x128, .f32⟩
  | .hbm, ⟨100, _⟩ => ⟨S16x16x4x3x128, .f32⟩
  | .hbm, ⟨101, _⟩ => ⟨S16x16x4x3x128, .f32⟩
  | .hbm, ⟨102, _⟩ => ⟨S16x16x4x3x128x128, .f32⟩
  | .hbm, ⟨103, _⟩ => ⟨S16x16x4x3x128x1, .f32⟩
  | .hbm, ⟨104, _⟩ => ⟨S16x16x4x3x128x128, .f32⟩
  | .hbm, ⟨105, _⟩ => ⟨S16x16x4x3x128x128, .f32⟩
  | .hbm, ⟨106, _⟩ => ⟨S16x16x128x4x3x128, .f32⟩
  | .hbm, ⟨107, _⟩ => ⟨S32768x1536, .f32⟩
  | .hbm, ⟨108, _⟩ => ⟨S32768x1536, .bf16⟩
  | .hbm, ⟨109, _⟩ => ⟨S_, .bf16⟩
  | .hbm, ⟨110, _⟩ => ⟨S4096x1536, .bf16⟩
  | .hbm, ⟨111, _⟩ => ⟨S36864x1536, .bf16⟩
  | _, _ => ⟨S36864x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_c : Ref sig .tc := ⟨.hbm, 17, rfl⟩
abbrev main_call0_v0 : Ref sig .tc := ⟨.hbm, 18, rfl⟩
abbrev main_v15 : Ref sig .tc := ⟨.hbm, 19, rfl⟩
abbrev main_v16 : Ref sig .tc := ⟨.hbm, 20, rfl⟩
abbrev main_c_0 : Ref sig .tc := ⟨.hbm, 21, rfl⟩
abbrev main_call1_v0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_c_2 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_c_3 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_c_4 : Ref sig .tc := ⟨.hbm, 61, rfl⟩
abbrev main_v52 : Ref sig .tc := ⟨.hbm, 62, rfl⟩
abbrev main_v53 : Ref sig .tc := ⟨.hbm, 63, rfl⟩
abbrev main_c_5 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_c_6 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_7 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_8 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_9 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_10 : Ref sig .tc := ⟨.hbm, 109, rfl⟩
abbrev main_v90 : Ref sig .tc := ⟨.hbm, 110, rfl⟩
abbrev main_v91 : Ref sig .tc := ⟨.hbm, 111, rfl⟩

abbrev nD : Nat := 1
abbrev τ : Topo := Topo.v7x

variable {F : FTy → Type} [FloatOps F]
-- ==== Kernel2.lean ====
abbrev S336 : Shape := ⟨1, ![336]⟩
abbrev S43008x2048 : Shape := ⟨2, ![43008, 2048]⟩
abbrev S4x16x2048x1024 : Shape := ⟨4, ![4, 16, 2048, 1024]⟩
abbrev S4x16x1024x2048 : Shape := ⟨4, ![4, 16, 1024, 2048]⟩
abbrev S43008x4096 : Shape := ⟨2, ![43008, 4096]⟩
abbrev S256x2048 : Shape := ⟨2, ![256, 2048]⟩
abbrev S1 : Shape := ⟨1, ![1]⟩
abbrev S1x1x2048x1024 : Shape := ⟨4, ![1, 1, 2048, 1024]⟩
abbrev S1x1x1024x2048 : Shape := ⟨4, ![1, 1, 1024, 2048]⟩
abbrev S2048x1024 : Shape := ⟨2, ![2048, 1024]⟩
abbrev S256x1024 : Shape := ⟨2, ![256, 1024]⟩
abbrev S1024x2048 : Shape := ⟨2, ![1024, 2048]⟩

abbrev nBuf : Space → Nat
  | .hbm => 8
  | .vmem => 10
  | .smem => 4
  | _ => 0

abbrev bufTy : (tb : Table) → Fin (tcTables nBuf tb) → BufTy
  | .hbm, ⟨0, _⟩ => ⟨S43008x2048, .f32⟩
  | .hbm, ⟨1, _⟩ => ⟨S4x16x2048x1024, .f32⟩
  | .hbm, ⟨2, _⟩ => ⟨S4x16x2048x1024, .f32⟩
  | .hbm, ⟨3, _⟩ => ⟨S4x16x1024x2048, .f32⟩
  | .hbm, ⟨4, _⟩ => ⟨S4x16x2048x1024, .bf16⟩
  | .hbm, ⟨5, _⟩ => ⟨S4x16x2048x1024, .bf16⟩
  | .hbm, ⟨6, _⟩ => ⟨S4x16x1024x2048, .bf16⟩
  | .hbm, ⟨7, _⟩ => ⟨S43008x4096, .f32⟩
  | .local _ .vmem, ⟨0, _⟩ => ⟨S256x2048, .f32⟩
  | .local _ .vmem, ⟨1, _⟩ => ⟨S256x2048, .f32⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1x1x2048x1024, .bf16⟩
  | .local _ .vmem, ⟨5, _⟩ => ⟨S1x1x2048x1024, .bf16⟩
  | .local _ .vmem, ⟨6, _⟩ => ⟨S1x1x1024x2048, .bf16⟩
  | .local _ .vmem, ⟨7, _⟩ => ⟨S1x1x1024x2048, .bf16⟩
  | .local _ .vmem, ⟨8, _⟩ => ⟨S256x2048, .f32⟩
  | .local _ .vmem, ⟨9, _⟩ => ⟨S256x2048, .f32⟩
  | .local _ .smem, ⟨0, _⟩ => ⟨S336, .i32⟩
  | .local _ .smem, ⟨1, _⟩ => ⟨S336, .i32⟩
  | .local _ .smem, ⟨2, _⟩ => ⟨S336, .i32⟩
  | .local _ .smem, ⟨3, _⟩ => ⟨S336, .i32⟩
  | _, _ => ⟨S43008x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![336], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .sgt v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (k0_off1_inb : ∀ i : grid0.Coords, ∀ a, (k0_off1 i) a + S1.size a ≤ S336.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S336) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S336.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S336) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S336.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S336) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S336.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S336) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S336.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S336) ![v0.toNat] S1.size (k0_off1_inb i)) numel1_S1
  let v2 : Index := Scalar.indexCast arg0
  let v3 : BitVec 32 := pf.at 2 (Rect.unit (s := S336) ![v2.toNat] S1.size (k0_off1_inb i)) numel1_S1
  let c0_i32 : BitVec 32 := 0#32
  ![v1.toNat, v3.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S336 : Shape := ⟨1, ![336]⟩
abbrev S43008x2048 : Shape := ⟨2, ![43008, 2048]⟩
abbrev S4x16x2048x1024 : Shape := ⟨4, ![4, 16, 2048, 1024]⟩
abbrev S4x16x1024x2048 : Shape := ⟨4, ![4, 16, 1024, 2048]⟩
abbrev S336x1x1x1 : Shape := ⟨4, ![336, 1, 1, 1]⟩
abbrev S168 : Shape := ⟨1, ![168]⟩
abbrev S1x168x1x1 : Shape := ⟨4, ![1, 168, 1, 1]⟩
abbrev S336x168x1x1 : Shape := ⟨4, ![336, 168, 1, 1]⟩
abbrev S2 : Shape := ⟨1, ![2]⟩
abbrev S1x1x2x1 : Shape := ⟨4, ![1, 1, 2, 1]⟩
abbrev S336x1x2x1 : Shape := ⟨4, ![336, 1, 2, 1]⟩
abbrev S336x168x2x1 : Shape := ⟨4, ![336, 168, 2, 1]⟩
abbrev S16 : Shape := ⟨1, ![16]⟩
abbrev S1x1x1x16 : Shape := ⟨4, ![1, 1, 1, 16]⟩
abbrev S336x1x1x16 : Shape := ⟨4, ![336, 1, 1, 16]⟩
abbrev S336x168x2x16 : Shape := ⟨4, ![336, 168, 2, 16]⟩
abbrev S_ : Shape := ⟨0, ![]⟩
abbrev S168x2x16 : Shape := ⟨3, ![168, 2, 16]⟩
abbrev S168x1x2x16 : Shape := ⟨4, ![168, 1, 2, 16]⟩
abbrev S168x256x2x16 : Shape := ⟨4, ![168, 256, 2, 16]⟩
abbrev S43008x2x16 : Shape := ⟨3, ![43008, 2, 16]⟩
abbrev S1x16x2048x1024 : Shape := ⟨4, ![1, 16, 2048, 1024]⟩
abbrev S16x2048x1024 : Shape := ⟨3, ![16, 2048, 1024]⟩
abbrev S16x1024x43008 : Shape := ⟨3, ![16, 1024, 43008]⟩
abbrev S16x43008x1024 : Shape := ⟨3, ![16, 43008, 1024]⟩
abbrev S1x16x1024x2048 : Shape := ⟨4, ![1, 16, 1024, 2048]⟩
abbrev S16x1024x2048 : Shape := ⟨3, ![16, 1024, 2048]⟩
abbrev S16x43008x2048 : Shape := ⟨3, ![16, 43008, 2048]⟩
abbrev S43008x2x2048 : Shape := ⟨3, ![43008, 2, 2048]⟩
abbrev S43008x4096 : Shape := ⟨2, ![43008, 4096]⟩

abbrev nBuf : Space → Nat
  | .hbm => 71
  | .vmem => 0
  | .smem => 0
  | _ => 0

abbrev bufTy : (tb : Table) → Fin (tcTables nBuf tb) → BufTy
  | .hbm, ⟨0, _⟩ => ⟨S336, .i32⟩
  | .hbm, ⟨1, _⟩ => ⟨S336, .i32⟩
  | .hbm, ⟨2, _⟩ => ⟨S336, .i32⟩
  | .hbm, ⟨3, _⟩ => ⟨S336, .i32⟩
  | .hbm, ⟨4, _⟩ => ⟨S43008x2048, .f32⟩
  | .hbm, ⟨5, _⟩ => ⟨S4x16x2048x1024, .f32⟩
  | .hbm, ⟨6, _⟩ => ⟨S4x16x2048x1024, .f32⟩
  | .hbm, ⟨7, _⟩ => ⟨S4x16x1024x2048, .f32⟩
  | .hbm, ⟨8, _⟩ => ⟨S336x1x1x1, .i32⟩
  | .hbm, ⟨9, _⟩ => ⟨S168, .i32⟩
  | .hbm, ⟨10, _⟩ => ⟨S1x168x1x1, .i32⟩
  | .hbm, ⟨11, _⟩ => ⟨S336x168x1x1, .i32⟩
  | .hbm, ⟨12, _⟩ => ⟨S336x168x1x1, .i32⟩
  | .hbm, ⟨13, _⟩ => ⟨S336x168x1x1, .i1⟩
  | .hbm, ⟨14, _⟩ => ⟨S336x1x1x1, .i32⟩
  | .hbm, ⟨15, _⟩ => ⟨S2, .i32⟩
  | .hbm, ⟨16, _⟩ => ⟨S1x1x2x1, .i32⟩
  | .hbm, ⟨17, _⟩ => ⟨S336x1x2x1, .i32⟩
  | .hbm, ⟨18, _⟩ => ⟨S336x1x2x1, .i32⟩
  | .hbm, ⟨19, _⟩ => ⟨S336x1x2x1, .i1⟩
  | .hbm, ⟨20, _⟩ => ⟨S336x168x2x1, .i1⟩
  | .hbm, ⟨21, _⟩ => ⟨S336x168x2x1, .i1⟩
  | .hbm, ⟨22, _⟩ => ⟨S336x168x2x1, .i1⟩
  | .hbm, ⟨23, _⟩ => ⟨S336x1x1x1, .i32⟩
  | .hbm, ⟨24, _⟩ => ⟨S16, .i32⟩
  | .hbm, ⟨25, _⟩ => ⟨S1x1x1x16, .i32⟩
  | .hbm, ⟨26, _⟩ => ⟨S336x1x1x16, .i32⟩
  | .hbm, ⟨27, _⟩ => ⟨S336x1x1x16, .i32⟩
  | .hbm, ⟨28, _⟩ => ⟨S336x1x1x16, .i1⟩
  | .hbm, ⟨29, _⟩ => ⟨S336x168x2x16, .i1⟩
  | .hbm, ⟨30, _⟩ => ⟨S336x168x2x16, .i1⟩
  | .hbm, ⟨31, _⟩ => ⟨S336x168x2x16, .i1⟩
  | .hbm, ⟨32, _⟩ => ⟨S336x1x1x1, .i32⟩
  | .hbm, ⟨33, _⟩ => ⟨S_, .i32⟩
  | .hbm, ⟨34, _⟩ => ⟨S336x1x1x1, .i32⟩
  | .hbm, ⟨35, _⟩ => ⟨S336x1x1x1, .i1⟩
  | .hbm, ⟨36, _⟩ => ⟨S336x168x2x16, .i1⟩
  | .hbm, ⟨37, _⟩ => ⟨S336x168x2x16, .i1⟩
  | .hbm, ⟨38, _⟩ => ⟨S_, .i1⟩
  | .hbm, ⟨39, _⟩ => ⟨S168x2x16, .i1⟩
  | .hbm, ⟨40, _⟩ => ⟨S_, .f32⟩
  | .hbm, ⟨41, _⟩ => ⟨S_, .f32⟩
  | .hbm, ⟨42, _⟩ => ⟨S168x2x16, .f32⟩
  | .hbm, ⟨43, _⟩ => ⟨S168x2x16, .f32⟩
  | .hbm, ⟨44, _⟩ => ⟨S168x2x16, .f32⟩
  | .hbm, ⟨45, _⟩ => ⟨S168x1x2x16, .f32⟩
  | .hbm, ⟨46, _⟩ => ⟨S168x256x2x16, .f32⟩
  | .hbm, ⟨47, _⟩ => ⟨S43008x2x16, .f32⟩
  | .hbm, ⟨48, _⟩ => ⟨S1x16x2048x1024, .f32⟩
  | .hbm, ⟨49, _⟩ => ⟨S16x2048x1024, .f32⟩
  | .hbm, ⟨50, _⟩ => ⟨S16x1024x43008, .f32⟩
  | .hbm, ⟨51, _⟩ => ⟨S16x43008x1024, .f32⟩
  | .hbm, ⟨52, _⟩ => ⟨S16x43008x1024, .f32⟩
  | .hbm, ⟨53, _⟩ => ⟨S16x43008x1024, .f32⟩
  | .hbm, ⟨54, _⟩ => ⟨S_, .f32⟩
  | .hbm, ⟨55, _⟩ => ⟨S16x43008x1024, .f32⟩
  | .hbm, ⟨56, _⟩ => ⟨S16x43008x1024, .f32⟩
  | .hbm, ⟨57, _⟩ => ⟨S_, .f32⟩
  | .hbm, ⟨58, _⟩ => ⟨S16x43008x1024, .f32⟩
  | .hbm, ⟨59, _⟩ => ⟨S16x43008x1024, .f32⟩
  | .hbm, ⟨60, _⟩ => ⟨S16x43008x1024, .f32⟩
  | .hbm, ⟨61, _⟩ => ⟨S1x16x2048x1024, .f32⟩
  | .hbm, ⟨62, _⟩ => ⟨S16x2048x1024, .f32⟩
  | .hbm, ⟨63, _⟩ => ⟨S16x1024x43008, .f32⟩
  | .hbm, ⟨64, _⟩ => ⟨S16x43008x1024, .f32⟩
  | .hbm, ⟨65, _⟩ => ⟨S16x43008x1024, .f32⟩
  | .hbm, ⟨66, _⟩ => ⟨S1x16x1024x2048, .f32⟩
  | .hbm, ⟨67, _⟩ => ⟨S16x1024x2048, .f32⟩
  | .hbm, ⟨68, _⟩ => ⟨S16x43008x2048, .f32⟩
  | .hbm, ⟨69, _⟩ => ⟨S43008x2x2048, .f32⟩
  | .hbm, ⟨70, _⟩ => ⟨S43008x4096, .f32⟩
  | _, _ => ⟨S336, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_0 : Ref sig .tc := ⟨.hbm, 38, rfl⟩
abbrev main_v29 : Ref sig .tc := ⟨.hbm, 39, rfl⟩
abbrev main_cst : Ref sig .tc := ⟨.hbm, 40, rfl⟩
abbrev main_cst_1 : Ref sig .tc := ⟨.hbm, 41, rfl⟩
abbrev main_call0_v0 : Ref sig .tc := ⟨.hbm, 42, rfl⟩
abbrev main_call0_v1 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call1_v0 : Ref sig .tc := ⟨.hbm, 52, rfl⟩
abbrev main_call1_v1 : Ref sig .tc := ⟨.hbm, 53, rfl⟩
abbrev main_call1_cst : Ref sig .tc := ⟨.hbm, 54, rfl⟩
abbrev main_call1_v2 : Ref sig .tc := ⟨.hbm, 55, rfl⟩
abbrev main_call1_v3 : Ref sig .tc := ⟨.hbm, 56, rfl⟩
abbrev main_call1_cst_0 : Ref sig .tc := ⟨.hbm, 57, rfl⟩
abbrev main_call1_v4 : Ref sig .tc := ⟨.hbm, 58, rfl⟩
abbrev main_call1_v5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== Kernel3.lean ====
abbrev S36864x2048 : Shape := ⟨2, ![36864, 2048]⟩
abbrev S17x6x2048 : Shape := ⟨3, ![17, 6, 2048]⟩
abbrev S1x2048 : Shape := ⟨2, ![1, 2048]⟩
abbrev S2048x8256 : Shape := ⟨2, ![2048, 8256]⟩
abbrev S2048x128 : Shape := ⟨2, ![2048, 128]⟩
abbrev S2048x8192 : Shape := ⟨2, ![2048, 8192]⟩
abbrev S2048x64 : Shape := ⟨2, ![2048, 64]⟩
abbrev S_ : Shape := ⟨0, ![]⟩
abbrev S36864x8192 : Shape := ⟨2, ![36864, 8192]⟩
abbrev S36864x128 : Shape := ⟨2, ![36864, 128]⟩
abbrev S1024x2048 : Shape := ⟨2, ![1024, 2048]⟩
abbrev S1x6x2048 : Shape := ⟨3, ![1, 6, 2048]⟩
abbrev S2048x1024 : Shape := ⟨2, ![2048, 1024]⟩
abbrev S1024x128 : Shape := ⟨2, ![1024, 128]⟩
abbrev S1024x1024 : Shape := ⟨2, ![1024, 1024]⟩
abbrev S6x2048 : Shape := ⟨2, ![6, 2048]⟩
abbrev S1024 : Shape := ⟨1, ![1024]⟩
abbrev S1024x1 : Shape := ⟨2, ![1024, 1]⟩

abbrev nBuf : Space → Nat
  | .hbm => 15
  | .vmem => 17
  | .smem => 0
  | _ => 0

abbrev bufTy : (tb : Table) → Fin (tcTables nBuf tb) → BufTy
  | .hbm, ⟨0, _⟩ => ⟨S36864x2048, .f32⟩
  | .hbm, ⟨1, _⟩ => ⟨S17x6x2048, .f32⟩
  | .hbm, ⟨2, _⟩ => ⟨S1x2048, .f32⟩
  | .hbm, ⟨3, _⟩ => ⟨S2048x8256, .f32⟩
  | .hbm, ⟨4, _⟩ => ⟨S2048x128, .f32⟩
  | .hbm, ⟨5, _⟩ => ⟨S2048x128, .f32⟩
  | .hbm, ⟨6, _⟩ => ⟨S2048x8192, .f32⟩
  | .hbm, ⟨7, _⟩ => ⟨S2048x8192, .bf16⟩
  | .hbm, ⟨8, _⟩ => ⟨S2048x64, .f32⟩
  | .hbm, ⟨9, _⟩ => ⟨S_, .f32⟩
  | .hbm, ⟨10, _⟩ => ⟨S2048x64, .f32⟩
  | .hbm, ⟨11, _⟩ => ⟨S2048x128, .f32⟩
  | .hbm, ⟨12, _⟩ => ⟨S2048x128, .bf16⟩
  | .hbm, ⟨13, _⟩ => ⟨S36864x8192, .bf16⟩
  | .hbm, ⟨14, _⟩ => ⟨S36864x128, .f32⟩
  | .local _ .vmem, ⟨0, _⟩ => ⟨S1024x2048, .f32⟩
  | .local _ .vmem, ⟨1, _⟩ => ⟨S1024x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S2048x128, .bf16⟩
  | .local _ .vmem, ⟨12, _⟩ => ⟨S1024x1024, .bf16⟩
  | .local _ .vmem, ⟨13, _⟩ => ⟨S1024x1024, .bf16⟩
  | .local _ .vmem, ⟨14, _⟩ => ⟨S1024x128, .f32⟩
  | .local _ .vmem, ⟨15, _⟩ => ⟨S1024x128, .f32⟩
  | .local _ .vmem, ⟨16, _⟩ => ⟨S1024x2048, .bf16⟩
  | _, _ => ⟨S36864x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![36, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.minsi v16 c16_i32
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S36864x2048 : Shape := ⟨2, ![36864, 2048]⟩
abbrev S17x6x2048 : Shape := ⟨3, ![17, 6, 2048]⟩
abbrev S1x2048 : Shape := ⟨2, ![1, 2048]⟩
abbrev S2048x8256 : Shape := ⟨2, ![2048, 8256]⟩
abbrev S2048x128 : Shape := ⟨2, ![2048, 128]⟩
abbrev S17x1x2048 : Shape := ⟨3, ![17, 1, 2048]⟩
abbrev S17x2048 : Shape := ⟨2, ![17, 2048]⟩
abbrev S_ : Shape := ⟨0, ![]⟩
abbrev S36864 : Shape := ⟨1, ![36864]⟩
abbrev S36864x1 : Shape := ⟨2, ![36864, 1]⟩
abbrev S16x2048 : Shape := ⟨2, ![16, 2048]⟩
abbrev S16x1x2048 : Shape := ⟨3, ![16, 1, 2048]⟩
abbrev S16x2048x2048 : Shape := ⟨3, ![16, 2048, 2048]⟩
abbrev S32768x2048 : Shape := ⟨2, ![32768, 2048]⟩
abbrev S4096x2048 : Shape := ⟨2, ![4096, 2048]⟩
abbrev S36864x8256 : Shape := ⟨2, ![36864, 8256]⟩
abbrev S36864x8192 : Shape := ⟨2, ![36864, 8192]⟩
abbrev S36864x64 : Shape := ⟨2, ![36864, 64]⟩
abbrev S36864x128 : Shape := ⟨2, ![36864, 128]⟩

abbrev nBuf : Space → Nat
  | .hbm => 51
  | .vmem => 0
  | .smem => 0
  | _ => 0

abbrev bufTy : (tb : Table) → Fin (tcTables nBuf tb) → BufTy
  | .hbm, ⟨0, _⟩ => ⟨S36864x2048, .f32⟩
  | .hbm, ⟨1, _⟩ => ⟨S17x6x2048, .f32⟩
  | .hbm, ⟨2, _⟩ => ⟨S1x2048, .f32⟩
  | .hbm, ⟨3, _⟩ => ⟨S2048x8256, .f32⟩
  | .hbm, ⟨4, _⟩ => ⟨S2048x128, .f32⟩
  | .hbm, ⟨5, _⟩ => ⟨S2048x128, .f32⟩
  | .hbm, ⟨6, _⟩ => ⟨S17x1x2048, .f32⟩
  | .hbm, ⟨7, _⟩ => ⟨S17x2048, .f32⟩
  | .hbm, ⟨8, _⟩ => ⟨S17x1x2048, .f32⟩
  | .hbm, ⟨9, _⟩ => ⟨S17x2048, .f32⟩
  | .hbm, ⟨10, _⟩ => ⟨S36864x2048, .f32⟩
  | .hbm, ⟨11, _⟩ => ⟨S_, .f32⟩
  | .hbm, ⟨12, _⟩ => ⟨S36864, .f32⟩
  | .hbm, ⟨13, _⟩ => ⟨S36864x1, .f32⟩
  | .hbm, ⟨14, _⟩ => ⟨S_, .f32⟩
  | .hbm, ⟨15, _⟩ => ⟨S36864x1, .f32⟩
  | .hbm, ⟨16, _⟩ => ⟨S36864x1, .f32⟩
  | .hbm, ⟨17, _⟩ => ⟨S_, .f32⟩
  | .hbm, ⟨18, _⟩ => ⟨S36864x1, .f32⟩
  | .hbm, ⟨19, _⟩ => ⟨S36864x1, .f32⟩
  | .hbm, ⟨20, _⟩ => ⟨S36864x1, .f32⟩
  | .hbm, ⟨21, _⟩ => ⟨S36864x2048, .f32⟩
  | .hbm, ⟨22, _⟩ => ⟨S36864x2048, .f32⟩
  | .hbm, ⟨23, _⟩ => ⟨S36864x2048, .f32⟩
  | .hbm, ⟨24, _⟩ => ⟨S36864x2048, .f32⟩
  | .hbm, ⟨25, _⟩ => ⟨S16x2048, .f32⟩
  | .hbm, ⟨26, _⟩ => ⟨S16x1x2048, .f32⟩
  | .hbm, ⟨27, _⟩ => ⟨S16x2048x2048, .f32⟩
  | .hbm, ⟨28, _⟩ => ⟨S32768x2048, .f32⟩
  | .hbm, ⟨29, _⟩ => ⟨S1x2048, .f32⟩
  | .hbm, ⟨30, _⟩ => ⟨S4096x2048, .f32⟩
  | .hbm, ⟨31, _⟩ => ⟨S36864x2048, .f32⟩
  | .hbm, ⟨32, _⟩ => ⟨S_, .f32⟩
  | .hbm, ⟨33, _⟩ => ⟨S36864x2048, .f32⟩
  | .hbm, ⟨34, _⟩ => ⟨S36864x2048, .f32⟩
  | .hbm, ⟨35, _⟩ => ⟨S36864x2048, .f32⟩
  | .hbm, ⟨36, _⟩ => ⟨S16x2048, .f32⟩
  | .hbm, ⟨37, _⟩ => ⟨S16x1x2048, .f32⟩
  | .hbm, ⟨38, _⟩ => ⟨S16x2048x2048, .f32⟩
  | .hbm, ⟨39, _⟩ => ⟨S32768x2048, .f32⟩
  | .hbm, ⟨40, _⟩ => ⟨S1x2048, .f32⟩
  | .hbm, ⟨41, _⟩ => ⟨S4096x2048, .f32⟩
  | .hbm, ⟨42, _⟩ => ⟨S36864x2048, .f32⟩
  | .hbm, ⟨43, _⟩ => ⟨S36864x2048, .f32⟩
  | .hbm, ⟨44, _⟩ => ⟨S36864x8256, .f32⟩
  | .hbm, ⟨45, _⟩ => ⟨S36864x8192, .f32⟩
  | .hbm, ⟨46, _⟩ => ⟨S36864x8192, .bf16⟩
  | .hbm, ⟨47, _⟩ => ⟨S36864x64, .f32⟩
  | .hbm, ⟨48, _⟩ => ⟨S_, .i32⟩
  | .hbm, ⟨49, _⟩ => ⟨S_, .f32⟩
  | .hbm, ⟨50, _⟩ => ⟨S36864x128, .f32⟩
  | _, _ => ⟨S36864x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c : Ref sig .tc := ⟨.hbm, 48, rfl⟩
abbrev main_call0_v0 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel4.lean ====
abbrev S36864x1536 : Shape := ⟨2, ![36864, 1536]⟩
abbrev S36864x512 : Shape := ⟨2, ![36864, 512]⟩
abbrev S2048x2048 : Shape := ⟨2, ![2048, 2048]⟩
abbrev S36864x2048 : Shape := ⟨2, ![36864, 2048]⟩
abbrev S17x6x2048 : Shape := ⟨3, ![17, 6, 2048]⟩
abbrev S1536x2048 : Shape := ⟨2, ![1536, 2048]⟩
abbrev S512x2048 : Shape := ⟨2, ![512, 2048]⟩
abbrev S512x1536 : Shape := ⟨2, ![512, 1536]⟩
abbrev S512x512 : Shape := ⟨2, ![512, 512]⟩
abbrev S1x6x2048 : Shape := ⟨3, ![1, 6, 2048]⟩
abbrev S1x1x2048 : Shape := ⟨3, ![1, 1, 2048]⟩
abbrev S1x2048 : Shape := ⟨2, ![1, 2048]⟩

abbrev nBuf : Space → Nat
  | .hbm => 9
  | .vmem => 12
  | .smem => 0
  | _ => 0

abbrev bufTy : (tb : Table) → Fin (tcTables nBuf tb) → BufTy
  | .hbm, ⟨0, _⟩ => ⟨S36864x1536, .bf16⟩
  | .hbm, ⟨1, _⟩ => ⟨S36864x512, .bf16⟩
  | .hbm, ⟨2, _⟩ => ⟨S2048x2048, .f32⟩
  | .hbm, ⟨3, _⟩ => ⟨S36864x2048, .f32⟩
  | .hbm, ⟨4, _⟩ => ⟨S17x6x2048, .f32⟩
  | .hbm, ⟨5, _⟩ => ⟨S2048x2048, .bf16⟩
  | .hbm, ⟨6, _⟩ => ⟨S1536x2048, .bf16⟩
  | .hbm, ⟨7, _⟩ => ⟨S512x2048, .bf16⟩
  | .hbm, ⟨8, _⟩ => ⟨S36864x2048, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S1536x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | .local _ .vmem, ⟨8, _⟩ => ⟨S1x6x2048, .f32⟩
  | .local _ .vmem, ⟨9, _⟩ => ⟨S1x6x2048, .f32⟩
  | .local _ .vmem, ⟨10, _⟩ => ⟨S512x2048, .f32⟩
  | .local _ .vmem, ⟨11, _⟩ => ⟨S512x2048, .f32⟩
  | _, _ => ⟨S36864x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![72, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.minsi v16 c16_i32
  let c0_i32_4 : BitVec 32 := 0#32
  let c0_i32_5 : BitVec 32 := 0#32
  ![v17.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1536x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S36864x1536 : Shape := ⟨2, ![36864, 1536]⟩
abbrev S36864x512 : Shape := ⟨2, ![36864, 512]⟩
abbrev S2048x2048 : Shape := ⟨2, ![2048, 2048]⟩
abbrev S36864x2048 : Shape := ⟨2, ![36864, 2048]⟩
abbrev S17x6x2048 : Shape := ⟨3, ![17, 6, 2048]⟩
abbrev S17x1x2048 : Shape := ⟨3, ![17, 1, 2048]⟩
abbrev S17x2048 : Shape := ⟨2, ![17, 2048]⟩
abbrev S16x2048 : Shape := ⟨2, ![16, 2048]⟩
abbrev S16x1x2048 : Shape := ⟨3, ![16, 1, 2048]⟩
abbrev S16x2048x2048 : Shape := ⟨3, ![16, 2048, 2048]⟩
abbrev S32768x2048 : Shape := ⟨2, ![32768, 2048]⟩
abbrev S1x2048 : Shape := ⟨2, ![1, 2048]⟩
abbrev S4096x2048 : Shape := ⟨2, ![4096, 2048]⟩

abbrev nBuf : Space → Nat
  | .hbm => 20
  | .vmem => 0
  | .smem => 0
  | _ => 0

abbrev bufTy : (tb : Table) → Fin (tcTables nBuf tb) → BufTy
  | .hbm, ⟨0, _⟩ => ⟨S36864x1536, .bf16⟩
  | .hbm, ⟨1, _⟩ => ⟨S36864x512, .bf16⟩
  | .hbm, ⟨2, _⟩ => ⟨S2048x2048, .f32⟩
  | .hbm, ⟨3, _⟩ => ⟨S36864x2048, .f32⟩
  | .hbm, ⟨4, _⟩ => ⟨S17x6x2048, .f32⟩
  | .hbm, ⟨5, _⟩ => ⟨S17x1x2048, .f32⟩
  | .hbm, ⟨6, _⟩ => ⟨S17x2048, .f32⟩
  | .hbm, ⟨7, _⟩ => ⟨S16x2048, .f32⟩
  | .hbm, ⟨8, _⟩ => ⟨S16x1x2048, .f32⟩
  | .hbm, ⟨9, _⟩ => ⟨S16x2048x2048, .f32⟩
  | .hbm, ⟨10, _⟩ => ⟨S32768x2048, .f32⟩
  | .hbm, ⟨11, _⟩ => ⟨S1x2048, .f32⟩
  | .hbm, ⟨12, _⟩ => ⟨S4096x2048, .f32⟩
  | .hbm, ⟨13, _⟩ => ⟨S36864x2048, .f32⟩
  | .hbm, ⟨14, _⟩ => ⟨S36864x1536, .f32⟩
  | .hbm, ⟨15, _⟩ => ⟨S36864x512, .f32⟩
  | .hbm, ⟨16, _⟩ => ⟨S36864x2048, .f32⟩
  | .hbm, ⟨17, _⟩ => ⟨S36864x2048, .f32⟩
  | .hbm, ⟨18, _⟩ => ⟨S36864x2048, .f32⟩
  | .hbm, ⟨19, _⟩ => ⟨S36864x2048, .f32⟩
  | _, _ => ⟨S36864x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.AttnHead.lean ====
module

public import proofs.«01_k».proof.Proof.Gen.KernelIdeal.Skeleton
public import Idealize.ShloMosaic.Lib.Pointwise
public import Idealize.ShloMosaic.Lib.Pipeline.ValueKit
public import Idealize.ShloMosaic.Lib.Tactic.WordOmega
public import Idealize.ShloMosaic.PureOps.Ideal.Laws

/-! One key head of the windowed attention, as the kernel computes it on one block of 128 queries: the
three query heads of the group are stacked into 384 rows, scored against 640 keys (the block before, the block
itself, the block after, and the 256 context keys), and normalised with the head's sinks. The body repeats the
same operations for each of its four key heads; here they are named once (`tail` and the first head's payloads) and
read at an index. -/

@[expose] public section

set_option maxRecDepth 16384

noncomputable section

namespace Cert.Attn

open Cert.KernelIdeal Cert.KernelIdeal.Gen Idealize.ShloMosaic Idealize.SL.Sem

/-- Softmax attention of one query over 640 keys with scores `S` and values `V`, where the sink `sk` joins the
maximum and the denominator only. -/
def attn (S V : Fin 640 → EReal) (sk : EReal) : EReal :=
  Ideal.div (∑ k, Ideal.exp (S k - max (Finset.univ.fold max (Ideal.ofBits .f32 0xFF800000#32) S) sk) * V k)
    (∑ k, Ideal.exp (S k - max (Finset.univ.fold max (Ideal.ofBits .f32 0xFF800000#32) S) sk)
      + Ideal.exp (sk - max (Finset.univ.fold max (Ideal.ofBits .f32 0xFF800000#32) S) sk))

/-- The keys in reach of query `r` of block `i`: a context key, or a key of the three blocks that is at most 128
positions away and lies inside the sequence. -/
def InReach (i r k : ℕ) : Prop :=
  384 ≤ k ∨ (r ≤ k ∧ k ≤ r + 256) ∧ (128 ≤ k ∨ 0 < i) ∧ (k < 256 ∨ i < 15)

instance (i r k : ℕ) : Decidable (InReach i r k) := by unfold InReach; infer_instance

variable {F : FTy → Type} [FloatOps F] [Named F]

/-- The column of sinks of one key head: the sink of query head `g` on the rows of that head. -/
def sinkCol (s0 s1 s2 : Elt F .f32) : FVec F S384x1 .f32 :=
  have q : IVec S384x1 32 := select (andi k0_pay6 k0_pay7) (subi k0_pay5 (broadcast S384x1 1#32)) k0_pay5
  select (cmpi .eq q (broadcast S384x1 2#32)) (broadcast S384x1 s2)
    (select (cmpi .eq q (broadcast S384x1 1#32)) (broadcast S384x1 s1)
      (select (cmpi .eq q (broadcast S384x1 0#32)) (broadcast S384x1 s0)
        (broadcast S384x1 (Scalar.ofBits .f32 0x00000000#32))))

/-- Each row's maximum over its scores and its sink. -/
def rowMax (s : FVec F S384x640 .f32) (sk : FVec F S384x1 .f32) : FVec F S384x1 .f32 :=
  maximumf (shapeCast S384x1 (multiReduction .maximumf [1] S384 s 0xFF800000#32 reduces_S384x640_S384 (.inl rfl) rfl) shapeCasts_S384_S384x1) sk

/-- The unnormalised weights. -/
def weights (s : FVec F S384x640 .f32) (m : FVec F S384x1 .f32) : FVec F S384x640 .f32 :=
  exp (subf s (broadcastTo S384x640 m broadcasts_S384x1_S384x640))

/-- The denominators: the weights' sum and the sink's weight. -/
def denom (w : FVec F S384x640 .f32) (sk m : FVec F S384x1 .f32) : FVec F S384x1 .f32 :=
  addf (shapeCast S384x1 (multiReduction .add [1] S384 w 0x00000000#32 reduces_S384x640_S384 (.inl rfl) rfl) shapeCasts_S384_S384x1)
    (exp (subf sk m))

/-- The weighted values over the denominators. -/
def weighted (w : FVec F S384x640 .f32) (v : FVec F S640x128 .bf16) (n : FVec F S384x1 .f32) : FVec F S384x128 .f32 :=
  divf (matmul dot_S384x640_S640x128_S384x128_1_0_0_1_n_n none (truncf .bf16 w bitsLt_bf16_f32) v (constant S384x128 .f32 0x00000000#32))
    (broadcastTo S384x128 n broadcasts_S384x1_S384x128)

/-- The three heads side by side. -/
def unstack (o : FVec F S384x128 .f32) : FVec F S128x384 .bf16 :=
  truncf .bf16 (concatenate S128x384 1 [⟨S128x128, extractStridedSlice S128x128 ![0, 0] o slices_S384x128_o0_0_S128x128⟩,
    ⟨S128x128, extractStridedSlice S128x128 ![128, 0] o slices_S384x128_o128_0_S128x128⟩,
    ⟨S128x128, extractStridedSlice S128x128 ![256, 0] o slices_S384x128_o256_0_S128x128⟩]
    concatenates_S128x128_S128x128_S128x128_S128x384_d1) bitsLt_bf16_f32

/-- What the body computes of one key head from the head's values, scores and sinks. -/
def tail (v : FVec F S640x128 .bf16) (s : FVec F S384x640 .f32) (s0 s1 s2 : Elt F .f32) : FVec F S128x384 .bf16 :=
  unstack (weighted (weights s (rowMax s (sinkCol s0 s1 s2))) v
    (denom (weights s (rowMax s (sinkCol s0 s1 s2))) (sinkCol s0 s1 s2) (rowMax s (sinkCol s0 s1 s2))))

/-- One key head's result from what the body loads for it: the group's queries, the four pieces of keys, the four
pieces of values and the three sinks. -/
def head (ok : IVec S384x640 1) (q : Vec F S128x384 .bf16) (ka kb kc : Vec F S128x128 .bf16) (kd : Vec F S256x128 .bf16)
    (va vb vc : Vec F S128x128 .bf16) (vd : Vec F S256x128 .bf16) (s0 s1 s2 : Elt F .f32) : FVec F S128x384 .bf16 :=
  tail (k0_pay3 va vb vc vd) (k0_pay4 ok (k0_pay2 q) ka kb kc kd) s0 s1 s2

/-- The row's query head, which the body finds by a division rounded downwards. -/
theorem query_head : ∀ n : Fin 384, (select (andi k0_pay6 k0_pay7) (subi k0_pay5 (broadcast S384x1 1#32)) k0_pay5) (ix2 n 0)
    = BitVec.ofNat 32 (n.val / 128) := by decide +kernel

/-- On the rows of query head `g` the column holds that head's sink. -/
theorem sinkCol_apply (s0 s1 s2 : EReal) (r : Fin 128) (g : Fin 3) :
    sinkCol (F := Ideal) s0 s1 s2 (ix2 ⟨128 * g.val + r.val, by omega⟩ 0) = ![s0, s1, s2] g := by
  unfold sinkCol
  have hq := query_head ⟨128 * g.val + r.val, by omega⟩
  generalize (select (andi k0_pay6 k0_pay7) (subi k0_pay5 (broadcast S384x1 1#32)) k0_pay5) = q at hq
  have e : (128 * g.val + r.val) / 128 = g.val := by omega
  rw [e] at hq
  pointwise
  rw [hq]
  fin_cases g <;> rfl

theorem unstack_apply (o : FVec Ideal S384x128 .f32) (r d : Fin 128) (g : Fin 3) :
    unstack o (ix2 r ⟨128 * g.val + d.val, by omega⟩) = o (ix2 ⟨128 * g.val + r.val, by omega⟩ d) := by
  pointwise [unstack]
  split_ifs with h h' <;> congr 1 <;> blk_ext

/-- The tail at row `r`, query head `g`, lane `d` is the attention of that row over the row's scores. -/
theorem tail_apply (v : FVec Ideal S640x128 .bf16) (s : FVec Ideal S384x640 .f32) (s0 s1 s2 : EReal) (r d : Fin 128) (g : Fin 3) :
    tail (F := Ideal) v s s0 s1 s2 (ix2 r ⟨128 * g.val + d.val, by omega⟩)
      = attn (fun k => s (ix2 ⟨128 * g.val + r.val, by omega⟩ k)) (fun k => v (ix2 k d)) (![s0, s1, s2] g) := by
  unfold tail
  rw [unstack_apply, ← sinkCol_apply s0 s1 s2 r g]
  generalize sinkCol (F := Ideal) s0 s1 s2 = sk
  unfold attn
  pointwise [weighted, denom, weights, rowMax]

/-- The stacked queries: row `128 g + r` is row `r` of query head `g`. -/
theorem queries_apply (q : Vec Ideal S128x384 .bf16)  (r d : Fin 128) (g : Fin 3) :
    k0_pay2 q (ix2 ⟨128 * g.val + r.val, by omega⟩ d) = q (ix2 r ⟨128 * g.val + d.val, by omega⟩) := by
  pointwise [k0_pay2]
  split_ifs with h h' <;> congr 1 <;> blk_ext

/-- The row index within its query head, which the body finds by a remainder. -/
theorem query_row : ∀ n : Fin 384, (Scalar.select
              (IntOp.andi
                (IntOp.xori
                  (IntOp.cmpi CmpIPredicate.slt
                    (IntOp.remsi ArithUnit.vector (BitVec.ofNat 32 n.val)
                      (Scalar.select (Scalar.cmpi CmpIPredicate.eq 128#32 0#32) 1#32 128#32))
                    0#32)
                  (Scalar.cmpi CmpIPredicate.slt (Scalar.select (Scalar.cmpi CmpIPredicate.eq 128#32 0#32) 1#32 128#32)
                    0#32))
                (IntOp.cmpi CmpIPredicate.ne
                  (IntOp.remsi ArithUnit.vector (BitVec.ofNat 32 n.val)
                    (Scalar.select (Scalar.cmpi CmpIPredicate.eq 128#32 0#32) 1#32 128#32))
                  0#32))
              (IntOp.addi
                (IntOp.remsi ArithUnit.vector (BitVec.ofNat 32 n.val)
                  (Scalar.select (Scalar.cmpi CmpIPredicate.eq 128#32 0#32) 1#32 128#32))
                (Scalar.select (Scalar.cmpi CmpIPredicate.eq 128#32 0#32) 1#32 128#32))
              (IntOp.remsi ArithUnit.vector (BitVec.ofNat 32 n.val)
                (Scalar.select (Scalar.cmpi CmpIPredicate.eq 128#32 0#32) 1#32 128#32)))
    = BitVec.ofNat 32 (n.val % 128) := by decide +kernel

/-- The mask at a row and a key says whether the key is in reach of the row's query. -/
theorem mask_apply (i : grid0.Coords) (R : Fin 384) (k : Fin 640) :
    k0_pay1 i (ix2 R k) = 1#1 ↔ InReach (i 1).val (R.val % 128) k.val := by
  pointwise [k0_pay1]
  rw [query_row R]
  have hi : (i 1).val < 16 := (i 1).isLt
  generalize (i 1).val = n at hi
  generalize hr : R.val % 128 = r
  have hr' : r < 128 := by omega
  unfold InReach
  clear hr
  word_omega

/-- One key head at row `r`, query head `g`, lane `d`. -/
theorem head_apply (i : grid0.Coords) (q : Vec Ideal S128x384 .bf16) (ka kb kc : Vec Ideal S128x128 .bf16) (kd : Vec Ideal S256x128 .bf16)
    (va vb vc : Vec Ideal S128x128 .bf16) (vd : Vec Ideal S256x128 .bf16) (s0 s1 s2 : EReal) (r d : Fin 128) (g : Fin 3) :
    head (F := Ideal) (k0_pay1 i) q ka kb kc kd va vb vc vd s0 s1 s2 (ix2 r ⟨128 * g.val + d.val, by omega⟩)
      = attn
        (fun k => if InReach (i 1).val r.val k.val then
          (∑ x : Fin 128, q (ix2 r ⟨128 * g.val + x.val, by omega⟩) * k0_pay3 ka kb kc kd (ix2 k x)) * Ideal.ofBits .f32 0x3DB504F3#32
          else ⊥)
        (fun k => k0_pay3 va vb vc vd (ix2 k d)) (![s0, s1, s2] g) := by
  unfold head
  rw [tail_apply]
  congr 1
  funext k
  have hm := mask_apply i ⟨128 * g.val + r.val, by omega⟩ k
  have e : (128 * g.val + r.val) % 128 = r.val := by omega
  simp only [e] at hm
  generalize k0_pay1 i = ok at hm
  have e2 : (Named.named (F := Ideal) (φ := .f32) κ "mask" 0xF149F2CA#32 : EReal) = ⊥ := IdealRules.named_const.ideal_named_scalar _ _ _ _ rfl
  have e3 : k0_pay4 (F := Ideal) ok (k0_pay2 q) ka kb kc kd (ix2 ⟨128 * g.val + r.val, by omega⟩ k)
     = Scalar.select (ok (ix2 ⟨128 * g.val + r.val, by omega⟩ k)) ((∑ x : Fin 128, k0_pay2 q (ix2 ⟨128 * g.val + r.val, by omega⟩ x) * k0_pay3 ka kb kc kd (ix2 k x)) * Ideal.ofBits .f32 0x3DB504F3#32) (Named.named (F := Ideal) (φ := .f32) κ "mask" 0xF149F2CA#32) := by
    generalize k0_pay2 q = q'
    pointwise [k0_pay4, k0_pay3]
  rw [e3, e2]
  simp only [queries_apply]
  by_cases h : InReach (i 1).val r.val k.val
  · rw [if_pos h, hm.mpr h]; rfl
  · rw [if_neg h, (BitVec.eq_zero_or_eq_one _).resolve_right (fun h' => h (hm.mp h'))]; rfl

end Cert.Attn
-- ==== Proof.AttnSpec.lean ====
module

public import proofs.«01_k».proof.Proof.AttnHead

/-! The windowed attention as a function of the array it reads, one element at a time, and the fact about softmax that
lets the two programs differ at the masked keys. -/

@[expose] public section

set_option maxRecDepth 16384

noncomputable section

namespace Cert.Attn

open Idealize.ShloMosaic Idealize.SL.Sem

/-- The constant that a maximum starts from is −∞. -/
theorem negInf : Ideal.ofBits .f32 0xFF800000#32 = (⊥ : EReal) := by
  simp [Ideal.ofBits, Ideal.ieee]

/-- A key whose score is −∞ has weight zero whatever the maximum is, so its value does not count. -/
theorem attn_congr {S S' V V' : Fin 640 → EReal} {sk : EReal} (hS : ∀ k, S k = S' k) (hV : ∀ k, S k = ⊥ ∨ V k = V' k) :
    attn S V sk = attn S' V' sk := by
  obtain rfl : S = S' := funext hS
  unfold attn
  congr 1
  refine Finset.sum_congr rfl fun k _ => ?_
  rcases hV k with h | h
  · rw [h, EReal.bot_sub, Ideal.exp_bot, zero_mul, zero_mul]
  · rw [h]

/-- The row of the array that holds key `k` of block `i` of batch `b`: the keys run over the block before, the
block and the block after, and then over the batch's context rows, which follow all the latent rows. -/
def keyRow (b i : Fin 16) (k : Fin 640) : Fin 36864 :=
  ⟨if k.val < 384 then b.val * 2048 + (i.val * 128 + k.val - 128) else 32768 + (b.val * 256 + (k.val - 384)), by
    split <;> omega⟩

/-- The row that holds query `r` of block `i` of batch `b`. -/
def queryRow (b i : Fin 16) (r : Fin 128) : Fin 36864 := ⟨b.val * 2048 + i.val * 128 + r.val, by omega⟩

/-- The windowed attention with sinks: query `r` of block `i` of batch `b`, query head `3 h + g`, lane `d`. -/
def attnAt (p : (⟨2, ![36864, 3072]⟩ : Shape).Idx → EReal) (sink : (⟨1, ![12]⟩ : Shape).Idx → EReal)
    (b i : Fin 16) (r : Fin 128) (h : Fin 4) (g : Fin 3) (d : Fin 128) : EReal :=
  attn
    (fun k => if InReach i.val r.val k.val then
      (∑ x : Fin 128, p (ix2 (queryRow b i r) ⟨h.val * 384 + g.val * 128 + x.val, by omega⟩)
        * p (ix2 (keyRow b i k) ⟨1536 + (h.val * 128 + x.val), by omega⟩)) * Ideal.ofBits .f32 0x3DB504F3#32
      else ⊥)
    (fun k => p (ix2 (keyRow b i k) ⟨2048 + (h.val * 128 + d.val), by omega⟩))
    (sink (ix1 ⟨h.val * 3 + g.val, by omega⟩))

end Cert.Attn
-- ==== Proof.AttnBlock.lean ====
module

public import proofs.«01_k».proof.Proof.AttnHead
public import proofs.«01_k».proof.Proof.Gen.KernelIdeal.Value
public import proofs.«01_k».proof.Proof.AttnSpec

/-! The kernel's blocks: what a grid point leaves in the output block is the windowed attention of the point's rows. -/

@[expose] public section

set_option maxRecDepth 16384

noncomputable section

namespace Cert.Attn

open Cert.KernelIdeal Cert.KernelIdeal.Gen Idealize.ShloMosaic Idealize.ShloMosaic.TcCoe Idealize.SL.Sem

/-- One key head of a block is the windowed attention when the pieces that the body loads are the array's rows: the
block's queries, the keys and values of the block before (if there is one), of the block, of the block after (if there
is one) and of the batch's context. -/
theorem head_at (co : grid0.Coords) (p : S36864x3072.Idx → EReal) (sink : S12.Idx → EReal) (b i : Fin 16)
    (hi : (co 1).val = i.val) (q : Vec Ideal S128x384 .bf16) (ka kb kc : Vec Ideal S128x128 .bf16)
    (kd : Vec Ideal S256x128 .bf16) (va vb vc : Vec Ideal S128x128 .bf16) (vd : Vec Ideal S256x128 .bf16) (s0 s1 s2 : EReal)
    (r : Fin 128) (h : Fin 4) (g : Fin 3) (d : Fin 128) (x : S128x384.Idx) (hx0 : (x 0).val = r.val) (hx1 : (x 1).val = g.val * 128 + d.val)
    (hq : ∀ (y : S128x384.Idx) (j : S36864x3072.Idx), (j 0).val = b.val * 2048 + i.val * 128 + (y 0).val →
      (j 1).val = h.val * 384 + (y 1).val → q y = p j)
    (hka : 0 < i.val → ∀ (y : S128x128.Idx) (j : S36864x3072.Idx), (j 0).val + 128 = b.val * 2048 + i.val * 128 + (y 0).val →
      (j 1).val = 1536 + h.val * 128 + (y 1).val → ka y = p j)
    (hkb : ∀ (y : S128x128.Idx) (j : S36864x3072.Idx), (j 0).val = b.val * 2048 + i.val * 128 + (y 0).val →
      (j 1).val = 1536 + h.val * 128 + (y 1).val → kb y = p j)
    (hkc : i.val < 15 → ∀ (y : S128x128.Idx) (j : S36864x3072.Idx), (j 0).val = b.val * 2048 + i.val * 128 + 128 + (y 0).val →
      (j 1).val = 1536 + h.val * 128 + (y 1).val → kc y = p j)
    (hkd : ∀ (y : S256x128.Idx) (j : S36864x3072.Idx), (j 0).val = 32768 + b.val * 256 + (y 0).val →
      (j 1).val = 1536 + h.val * 128 + (y 1).val → kd y = p j)
    (hva : 0 < i.val → ∀ (y : S128x128.Idx) (j : S36864x3072.Idx), (j 0).val + 128 = b.val * 2048 + i.val * 128 + (y 0).val →
      (j 1).val = 2048 + h.val * 128 + (y 1).val → va y = p j)
    (hvb : ∀ (y : S128x128.Idx) (j : S36864x3072.Idx), (j 0).val = b.val * 2048 + i.val * 128 + (y 0).val →
      (j 1).val = 2048 + h.val * 128 + (y 1).val → vb y = p j)
    (hvc : i.val < 15 → ∀ (y : S128x128.Idx) (j : S36864x3072.Idx), (j 0).val = b.val * 2048 + i.val * 128 + 128 + (y 0).val →
      (j 1).val = 2048 + h.val * 128 + (y 1).val → vc y = p j)
    (hvd : ∀ (y : S256x128.Idx) (j : S36864x3072.Idx), (j 0).val = 32768 + b.val * 256 + (y 0).val →
      (j 1).val = 2048 + h.val * 128 + (y 1).val → vd y = p j)
    (hs0 : ∀ j : S12.Idx, (j 0).val = h.val * 3 → s0 = sink j) (hs1 : ∀ j : S12.Idx, (j 0).val = h.val * 3 + 1 → s1 = sink j)
    (hs2 : ∀ j : S12.Idx, (j 0).val = h.val * 3 + 2 → s2 = sink j) :
    head (F := Ideal) (k0_pay1 co) q ka kb kc kd va vb vc vd s0 s1 s2 x = attnAt p sink b i r h g d := by
  have pieces : ∀ (ka kb kc : Vec Ideal S128x128 .bf16) (kd : Vec Ideal S256x128 .bf16) (off : ℕ),
      (0 < i.val → ∀ (y : S128x128.Idx) (j : S36864x3072.Idx), (j 0).val + 128 = b.val * 2048 + i.val * 128 + (y 0).val →
        (j 1).val = off + h.val * 128 + (y 1).val → ka y = p j) →
      (∀ (y : S128x128.Idx) (j : S36864x3072.Idx), (j 0).val = b.val * 2048 + i.val * 128 + (y 0).val →
        (j 1).val = off + h.val * 128 + (y 1).val → kb y = p j) →
      (i.val < 15 → ∀ (y : S128x128.Idx) (j : S36864x3072.Idx), (j 0).val = b.val * 2048 + i.val * 128 + 128 + (y 0).val →
        (j 1).val = off + h.val * 128 + (y 1).val → kc y = p j) →
      (∀ (y : S256x128.Idx) (j : S36864x3072.Idx), (j 0).val = 32768 + b.val * 256 + (y 0).val →
        (j 1).val = off + h.val * 128 + (y 1).val → kd y = p j) →
      ∀ (k : Fin 640) (e : Fin 128) (hlt : off + (h.val * 128 + e.val) < 3072), InReach i.val r.val k.val →
        k0_pay3 ka kb kc kd (ix2 k e) = p (ix2 (keyRow b i k) ⟨off + (h.val * 128 + e.val), hlt⟩) := by
    intro ka kb kc kd off hka hkb hkc hkd k e hlt hr
    unfold InReach at hr
    pointwise [k0_pay3]
    split_ifs <;> first
      | (exfalso; omega)
      | exact hka (by omega) _ _ (by show (if k.val < 384 then _ else _) + 128 = _; rw [if_pos (by omega)]; show _ = _ + k.val; omega)
          (by show off + (h.val * 128 + e.val) = off + h.val * 128 + e.val; omega)
      | exact hkb _ _ (by show (if k.val < 384 then _ else _) = _; rw [if_pos (by omega)]; show _ = _ + (k.val - 128); omega)
          (by show off + (h.val * 128 + e.val) = off + h.val * 128 + e.val; omega)
      | exact hkc (by omega) _ _ (by show (if k.val < 384 then _ else _) = _; rw [if_pos (by omega)]; show _ = _ + (k.val - 128 - 128); omega)
          (by show off + (h.val * 128 + e.val) = off + h.val * 128 + e.val; omega)
      | exact hkd _ _ (by show (if k.val < 384 then _ else _) = _; rw [if_neg (by omega)]; show _ = _ + (k.val - 128 - 128 - 128); omega)
          (by show off + (h.val * 128 + e.val) = off + h.val * 128 + e.val; omega)
      | exact absurd rfl ‹¬_›
  have ex : x = ix2 r ⟨128 * g.val + d.val, by omega⟩ := by
    funext a; apply Fin.ext
    match a with
    | ⟨0, _⟩ => exact hx0
    | ⟨1, _⟩ => show (x 1).val = 128 * g.val + d.val; omega
  rw [ex, head_apply, hi]
  unfold attnAt
  have es : (![s0, s1, s2] : Fin 3 → EReal) g = sink (ix1 ⟨h.val * 3 + g.val, by omega⟩) := by
    fin_cases g
    · exact hs0 _ rfl
    · exact hs1 _ rfl
    · exact hs2 _ rfl
  rw [es]
  refine attn_congr (fun k => ?_) fun k => ?_
  · by_cases hr : InReach i.val r.val k.val
    · rw [if_pos hr, if_pos hr]
      refine congrArg (fun s : EReal => s * _) (Finset.sum_congr rfl fun e _ => ?_)
      rw [pieces ka kb kc kd 1536 hka hkb hkc hkd k e (by omega) hr]
      rw [hq _ (ix2 (queryRow b i r) ⟨h.val * 384 + g.val * 128 + e.val, by omega⟩) rfl
        (by show h.val * 384 + g.val * 128 + e.val = h.val * 384 + (128 * g.val + e.val); omega)]
    · rw [if_neg hr, if_neg hr]
  · by_cases hr : InReach i.val r.val k.val
    · exact .inr (pieces va vb vc vd 2048 hva hvb hvc hvd k d (by omega) hr)
    · exact .inl (if_neg hr)

variable (m : (ℓ : Loc nD τ sig) → Buf (Elt Ideal) ℓ) (c : Dev nD) (t : Fin cfg0.N)

/-- The block indices of the windows at the grid's points. -/
theorem idx_sink : ∀ t : Fin cfg0.N, win0_0.index t 0 = 0 := (by decide +kernel : ∀ t : Fin grid0.N, win0_0.index t 0 = 0)
theorem idx_q : ∀ t : Fin cfg0.N, win0_1.index t 0 = t.val ∧ win0_1.index t 1 = 0 :=
  (by decide +kernel : ∀ t : Fin grid0.N, win0_1.index t 0 = t.val ∧ win0_1.index t 1 = 0)
theorem idx_k : ∀ t : Fin cfg0.N, ((0 < t.val % 16 → win0_2.index t 0 + 1 = t.val) ∧ win0_2.index t 1 = 3)
    ∧ (win0_3.index t 0 = t.val ∧ win0_3.index t 1 = 3)
    ∧ ((t.val % 16 < 15 → win0_4.index t 0 = t.val + 1) ∧ win0_4.index t 1 = 3)
    ∧ (win0_5.index t 0 = 128 + t.val / 16 ∧ win0_5.index t 1 = 3) :=
  (by decide +kernel : ∀ t : Fin grid0.N, ((0 < t.val % 16 → win0_2.index t 0 + 1 = t.val) ∧ win0_2.index t 1 = 3)
    ∧ (win0_3.index t 0 = t.val ∧ win0_3.index t 1 = 3)
    ∧ ((t.val % 16 < 15 → win0_4.index t 0 = t.val + 1) ∧ win0_4.index t 1 = 3)
    ∧ (win0_5.index t 0 = 128 + t.val / 16 ∧ win0_5.index t 1 = 3))
theorem idx_v : ∀ t : Fin cfg0.N, ((0 < t.val % 16 → win0_6.index t 0 + 1 = t.val) ∧ win0_6.index t 1 = 4)
    ∧ (win0_7.index t 0 = t.val ∧ win0_7.index t 1 = 4)
    ∧ ((t.val % 16 < 15 → win0_8.index t 0 = t.val + 1) ∧ win0_8.index t 1 = 4)
    ∧ (win0_9.index t 0 = 128 + t.val / 16 ∧ win0_9.index t 1 = 4) :=
  (by decide +kernel : ∀ t : Fin grid0.N, ((0 < t.val % 16 → win0_6.index t 0 + 1 = t.val) ∧ win0_6.index t 1 = 4)
    ∧ (win0_7.index t 0 = t.val ∧ win0_7.index t 1 = 4)
    ∧ ((t.val % 16 < 15 → win0_8.index t 0 = t.val + 1) ∧ win0_8.index t 1 = 4)
    ∧ (win0_9.index t 0 = 128 + t.val / 16 ∧ win0_9.index t 1 = 4))
theorem idx_coord : ∀ t : Fin cfg0.N, (grid0.coords t 1).val = t.val % 16 :=
  (by decide +kernel : ∀ t : Fin grid0.N, (grid0.coords t 1).val = t.val % 16)

/-- A block read at an index is the argument read at the index placed. -/
theorem rd0 (y : S12.Idx) (j : S12.Idx) (h0 : (j 0).val = (y 0).val) : iblk m c 0 t y = m ((c : Thread nD τ).loc main_arg1) j := by
  show V m c main_arg1 (((cfg0.win 0).blk t).view.emb y) = _
  rw [V_main_arg1]
  refine congrArg _ (funext fun a => Fin.ext ?_)
  match a with
  | ⟨0, _⟩ => show win0_0.index t 0 * 12 + 1 * (y 0).val = (j 0).val; rw [idx_sink t]; omega

theorem rd1 (y : S128x1536.Idx) (j : S36864x3072.Idx) (h0 : (j 0).val = t.val * 128 + (y 0).val) (h1 : (j 1).val = (y 1).val) :
    iblk m c 1 t y = m ((c : Thread nD τ).loc main_arg0) j := by
  show V m c main_arg0 (((cfg0.win 1).blk t).view.emb y) = _
  rw [V_main_arg0]
  refine congrArg _ (funext fun a => Fin.ext ?_)
  have e := idx_q t
  match a with
  | ⟨0, _⟩ => show win0_1.index t 0 * 128 + 1 * (y 0).val = (j 0).val; omega
  | ⟨1, _⟩ => show win0_1.index t 1 * 1536 + 1 * (y 1).val = (j 1).val; omega

theorem rd2 (hc : 0 < t.val % 16) (y : S128x512.Idx) (j : S36864x3072.Idx) (h0 : (j 0).val + 128 = t.val * 128 + (y 0).val) (h1 : (j 1).val = 1536 + (y 1).val) :
    iblk m c 2 t y = m ((c : Thread nD τ).loc main_arg0) j := by
  show V m c main_arg0 (((cfg0.win 2).blk t).view.emb y) = _
  rw [V_main_arg0]
  refine congrArg _ (funext fun a => Fin.ext ?_)
  have e := idx_k t
  match a with
  | ⟨0, _⟩ => show win0_2.index t 0 * 128 + 1 * (y 0).val = (j 0).val; omega
  | ⟨1, _⟩ => show win0_2.index t 1 * 512 + 1 * (y 1).val = (j 1).val; omega

theorem rd3 (y : S128x512.Idx) (j : S36864x3072.Idx) (h0 : (j 0).val = t.val * 128 + (y 0).val) (h1 : (j 1).val = 1536 + (y 1).val) :
    iblk m c 3 t y = m ((c : Thread nD τ).loc main_arg0) j := by
  show V m c main_arg0 (((cfg0.win 3).blk t).view.emb y) = _
  rw [V_main_arg0]
  refine congrArg _ (funext fun a => Fin.ext ?_)
  have e := idx_k t
  match a with
  | ⟨0, _⟩ => show win0_3.index t 0 * 128 + 1 * (y 0).val = (j 0).val; omega
  | ⟨1, _⟩ => show win0_3.index t 1 * 512 + 1 * (y 1).val = (j 1).val; omega

theorem rd4 (hc : t.val % 16 < 15) (y : S128x512.Idx) (j : S36864x3072.Idx) (h0 : (j 0).val = t.val * 128 + 128 + (y 0).val) (h1 : (j 1).val = 1536 + (y 1).val) :
    iblk m c 4 t y = m ((c : Thread nD τ).loc main_arg0) j := by
  show V m c main_arg0 (((cfg0.win 4).blk t).view.emb y) = _
  rw [V_main_arg0]
  refine congrArg _ (funext fun a => Fin.ext ?_)
  have e := idx_k t
  match a with
  | ⟨0, _⟩ => show win0_4.index t 0 * 128 + 1 * (y 0).val = (j 0).val; omega
  | ⟨1, _⟩ => show win0_4.index t 1 * 512 + 1 * (y 1).val = (j 1).val; omega

theorem rd5 (y : S256x512.Idx) (j : S36864x3072.Idx) (h0 : (j 0).val = 32768 + t.val / 16 * 256 + (y 0).val) (h1 : (j 1).val = 1536 + (y 1).val) :
    iblk m c 5 t y = m ((c : Thread nD τ).loc main_arg0) j := by
  show V m c main_arg0 (((cfg0.win 5).blk t).view.emb y) = _
  rw [V_main_arg0]
  refine congrArg _ (funext fun a => Fin.ext ?_)
  have e := idx_k t
  match a with
  | ⟨0, _⟩ => show win0_5.index t 0 * 256 + 1 * (y 0).val = (j 0).val; omega
  | ⟨1, _⟩ => show win0_5.index t 1 * 512 + 1 * (y 1).val = (j 1).val; omega

theorem rd6 (hc : 0 < t.val % 16) (y : S128x512.Idx) (j : S36864x3072.Idx) (h0 : (j 0).val + 128 = t.val * 128 + (y 0).val) (h1 : (j 1).val = 2048 + (y 1).val) :
    iblk m c 6 t y = m ((c : Thread nD τ).loc main_arg0) j := by
  show V m c main_arg0 (((cfg0.win 6).blk t).view.emb y) = _
  rw [V_main_arg0]
  refine congrArg _ (funext fun a => Fin.ext ?_)
  have e := idx_v t
  match a with
  | ⟨0, _⟩ => show win0_6.index t 0 * 128 + 1 * (y 0).val = (j 0).val; omega
  | ⟨1, _⟩ => show win0_6.index t 1 * 512 + 1 * (y 1).val = (j 1).val; omega

theorem rd7 (y : S128x512.Idx) (j : S36864x3072.Idx) (h0 : (j 0).val = t.val * 128 + (y 0).val) (h1 : (j 1).val = 2048 + (y 1).val) :
    iblk m c 7 t y = m ((c : Thread nD τ).loc main_arg0) j := by
  show V m c main_arg0 (((cfg0.win 7).blk t).view.emb y) = _
  rw [V_main_arg0]
  refine congrArg _ (funext fun a => Fin.ext ?_)
  have e := idx_v t
  match a with
  | ⟨0, _⟩ => show win0_7.index t 0 * 128 + 1 * (y 0).val = (j 0).val; omega
  | ⟨1, _⟩ => show win0_7.index t 1 * 512 + 1 * (y 1).val = (j 1).val; omega

theorem rd8 (hc : t.val % 16 < 15) (y : S128x512.Idx) (j : S36864x3072.Idx) (h0 : (j 0).val = t.val * 128 + 128 + (y 0).val) (h1 : (j 1).val = 2048 + (y 1).val) :
    iblk m c 8 t y = m ((c : Thread nD τ).loc main_arg0) j := by
  show V m c main_arg0 (((cfg0.win 8).blk t).view.emb y) = _
  rw [V_main_arg0]
  refine congrArg _ (funext fun a => Fin.ext ?_)
  have e := idx_v t
  match a with
  | ⟨0, _⟩ => show win0_8.index t 0 * 128 + 1 * (y 0).val = (j 0).val; omega
  | ⟨1, _⟩ => show win0_8.index t 1 * 512 + 1 * (y 1).val = (j 1).val; omega

theorem rd9 (y : S256x512.Idx) (j : S36864x3072.Idx) (h0 : (j 0).val = 32768 + t.val / 16 * 256 + (y 0).val) (h1 : (j 1).val = 2048 + (y 1).val) :
    iblk m c 9 t y = m ((c : Thread nD τ).loc main_arg0) j := by
  show V m c main_arg0 (((cfg0.win 9).blk t).view.emb y) = _
  rw [V_main_arg0]
  refine congrArg _ (funext fun a => Fin.ext ?_)
  have e := idx_v t
  match a with
  | ⟨0, _⟩ => show win0_9.index t 0 * 256 + 1 * (y 0).val = (j 0).val; omega
  | ⟨1, _⟩ => show win0_9.index t 1 * 512 + 1 * (y 1).val = (j 1).val; omega

/-! The same through a load of part of a block, which starts at column `o`. -/

theorem ld0 (o : ℕ) (inb) (y : S1.Idx) (j : S12.Idx) (h0 : (j 0).val = o) :
    View.ld (iblk m c 0 t) (Rect.unit (s := S12) ![o] ![1] inb) y = m ((c : Thread nD τ).loc main_arg1) j :=
  rd0 m c t _ j (by
    have hy : (y 0).val < 1 := (y 0).isLt
    show _ = o + 1 * (y 0).val
    omega)

theorem ld1 (o : ℕ) (inb) (y : S128x384.Idx) (j : S36864x3072.Idx) (h0 : (j 0).val = t.val * 128 + (y 0).val) (h1 : (j 1).val = o + (y 1).val) :
    View.ld (iblk m c 1 t) (Rect.unit (s := S128x1536) ![0, o] ![128, 384] inb) y = m ((c : Thread nD τ).loc main_arg0) j :=
  rd1 m c t _ j (by show _ = _ + (0 + 1 * (y 0).val); omega) (by show _ = o + 1 * (y 1).val; omega)

theorem ld2 (hc : 0 < t.val % 16) (o : ℕ) (inb) (y : S128x128.Idx) (j : S36864x3072.Idx) (h0 : (j 0).val + 128 = t.val * 128 + (y 0).val) (h1 : (j 1).val = 1536 + o + (y 1).val) :
    View.ld (iblk m c 2 t) (Rect.unit (s := S128x512) ![0, o] ![128, 128] inb) y = m ((c : Thread nD τ).loc main_arg0) j :=
  rd2 m c t hc _ j (by show _ = _ + (0 + 1 * (y 0).val); omega) (by show _ = _ + (o + 1 * (y 1).val); omega)

theorem ld3 (o : ℕ) (inb) (y : S128x128.Idx) (j : S36864x3072.Idx) (h0 : (j 0).val = t.val * 128 + (y 0).val) (h1 : (j 1).val = 1536 + o + (y 1).val) :
    View.ld (iblk m c 3 t) (Rect.unit (s := S128x512) ![0, o] ![128, 128] inb) y = m ((c : Thread nD τ).loc main_arg0) j :=
  rd3 m c t _ j (by show _ = _ + (0 + 1 * (y 0).val); omega) (by show _ = _ + (o + 1 * (y 1).val); omega)

theorem ld4 (hc : t.val % 16 < 15) (o : ℕ) (inb) (y : S128x128.Idx) (j : S36864x3072.Idx) (h0 : (j 0).val = t.val * 128 + 128 + (y 0).val) (h1 : (j 1).val = 1536 + o + (y 1).val) :
    View.ld (iblk m c 4 t) (Rect.unit (s := S128x512) ![0, o] ![128, 128] inb) y = m ((c : Thread nD τ).loc main_arg0) j :=
  rd4 m c t hc _ j (by show _ = _ + (0 + 1 * (y 0).val); omega) (by show _ = _ + (o + 1 * (y 1).val); omega)

theorem ld5 (o : ℕ) (inb) (y : S256x128.Idx) (j : S36864x3072.Idx) (h0 : (j 0).val = 32768 + t.val / 16 * 256 + (y 0).val) (h1 : (j 1).val = 1536 + o + (y 1).val) :
    View.ld (iblk m c 5 t) (Rect.unit (s := S256x512) ![0, o] ![256, 128] inb) y = m ((c : Thread nD τ).loc main_arg0) j :=
  rd5 m c t _ j (by show _ = _ + (0 + 1 * (y 0).val); omega) (by show _ = _ + (o + 1 * (y 1).val); omega)

theorem ld6 (hc : 0 < t.val % 16) (o : ℕ) (inb) (y : S128x128.Idx) (j : S36864x3072.Idx) (h0 : (j 0).val + 128 = t.val * 128 + (y 0).val) (h1 : (j 1).val = 2048 + o + (y 1).val) :
    View.ld (iblk m c 6 t) (Rect.unit (s := S128x512) ![0, o] ![128, 128] inb) y = m ((c : Thread nD τ).loc main_arg0) j :=
  rd6 m c t hc _ j (by show _ = _ + (0 + 1 * (y 0).val); omega) (by show _ = _ + (o + 1 * (y 1).val); omega)

theorem ld7 (o : ℕ) (inb) (y : S128x128.Idx) (j : S36864x3072.Idx) (h0 : (j 0).val = t.val * 128 + (y 0).val) (h1 : (j 1).val = 2048 + o + (y 1).val) :
    View.ld (iblk m c 7 t) (Rect.unit (s := S128x512) ![0, o] ![128, 128] inb) y = m ((c : Thread nD τ).loc main_arg0) j :=
  rd7 m c t _ j (by show _ = _ + (0 + 1 * (y 0).val); omega) (by show _ = _ + (o + 1 * (y 1).val); omega)

theorem ld8 (hc : t.val % 16 < 15) (o : ℕ) (inb) (y : S128x128.Idx) (j : S36864x3072.Idx) (h0 : (j 0).val = t.val * 128 + 128 + (y 0).val) (h1 : (j 1).val = 2048 + o + (y 1).val) :
    View.ld (iblk m c 8 t) (Rect.unit (s := S128x512) ![0, o] ![128, 128] inb) y = m ((c : Thread nD τ).loc main_arg0) j :=
  rd8 m c t hc _ j (by show _ = _ + (0 + 1 * (y 0).val); omega) (by show _ = _ + (o + 1 * (y 1).val); omega)

theorem ld9 (o : ℕ) (inb) (y : S256x128.Idx) (j : S36864x3072.Idx) (h0 : (j 0).val = 32768 + t.val / 16 * 256 + (y 0).val) (h1 : (j 1).val = 2048 + o + (y 1).val) :
    View.ld (iblk m c 9 t) (Rect.unit (s := S256x512) ![0, o] ![256, 128] inb) y = m ((c : Thread nD τ).loc main_arg0) j :=
  rd9 m c t _ j (by show _ = _ + (0 + 1 * (y 0).val); omega) (by show _ = _ + (o + 1 * (y 1).val); omega)

/-! The body writes the four key heads with the same operations. -/

section
variable {F : FTy → Type} [FloatOps F] [Named F]
variable (ok : IVec S384x640 1) (q : Vec F S128x384 .bf16) (ka kb kc va vb vc : Vec F S128x128 .bf16) (kd vd : Vec F S256x128 .bf16)
  (s0 s1 s2 : Elt F .f32)

theorem head0 : k0_pay8 (k0_pay3 va vb vc vd) (k0_pay4 ok (k0_pay2 q) ka kb kc kd) k0_pay5 k0_pay6 k0_pay7 s0 s1 s2
    = head ok q ka kb kc kd va vb vc vd s0 s1 s2 := rfl
theorem head1 : k0_pay16 (k0_pay11 va vb vc vd) (k0_pay12 ok q (k0_pay9 q) (k0_pay10 q) ka kb kc kd) k0_pay13 k0_pay14 k0_pay15 s0 s1 s2
    = head ok q ka kb kc kd va vb vc vd s0 s1 s2 := rfl
theorem head2 : k0_pay22 (k0_pay17 va vb vc vd) (k0_pay18 ok q ka kb kc kd) (iota .tc S384x1 32 [0] iota_S384x1_d0_w32) 128#32
      k0_pay19 k0_pay20 k0_pay21 s0 s1 s2
    = head ok q ka kb kc kd va vb vc vd s0 s1 s2 := rfl
theorem head3 : k0_pay27 (k0_pay23 va vb vc vd) (k0_pay24 ok q ka kb kc kd) (iota .tc S384x1 32 [0] iota_S384x1_d0_w32) 128#32
      k0_pay25 k0_pay26 1#32 0#1 s0 s1 s2
    = head ok q ka kb kc kd va vb vc vd s0 s1 s2 := rfl
end

/-- One key head over the loads of a point's blocks: key head `h`'s queries start at column `384 h`, its keys and values at
column `128 h` of their blocks, its sinks at `3 h`. -/
theorem head_ld (b i : Fin 16) (ht : t.val = b.val * 16 + i.val) (r : Fin 128) (h : Fin 4) (g : Fin 3) (d : Fin 128)
    (x : S128x384.Idx) (hx0 : (x 0).val = r.val) (hx1 : (x 1).val = g.val * 128 + d.val) (oq ok o0 o1 o2 : ℕ)
    (hoq : oq = h.val * 384) (hok : ok = h.val * 128) (ho0 : o0 = h.val * 3) (ho1 : o1 = h.val * 3 + 1) (ho2 : o2 = h.val * 3 + 2)
    (iq) (ik) (ik') (i0) (i1) (i2) (y0 y1 y2 : S1.Idx) :
    head (F := Ideal) (k0_pay1 (grid0.coords t)) (View.ld (iblk m c 1 t) (Rect.unit (s := S128x1536) ![0, oq] ![128, 384] iq))
      (View.ld (iblk m c 2 t) (Rect.unit (s := S128x512) ![0, ok] ![128, 128] ik))
      (View.ld (iblk m c 3 t) (Rect.unit (s := S128x512) ![0, ok] ![128, 128] ik))
      (View.ld (iblk m c 4 t) (Rect.unit (s := S128x512) ![0, ok] ![128, 128] ik))
      (View.ld (iblk m c 5 t) (Rect.unit (s := S256x512) ![0, ok] ![256, 128] ik'))
      (View.ld (iblk m c 6 t) (Rect.unit (s := S128x512) ![0, ok] ![128, 128] ik))
      (View.ld (iblk m c 7 t) (Rect.unit (s := S128x512) ![0, ok] ![128, 128] ik))
      (View.ld (iblk m c 8 t) (Rect.unit (s := S128x512) ![0, ok] ![128, 128] ik))
      (View.ld (iblk m c 9 t) (Rect.unit (s := S256x512) ![0, ok] ![256, 128] ik'))
      (View.ld (iblk m c 0 t) (Rect.unit (s := S12) ![o0] ![1] i0) y0)
      (View.ld (iblk m c 0 t) (Rect.unit (s := S12) ![o1] ![1] i1) y1)
      (View.ld (iblk m c 0 t) (Rect.unit (s := S12) ![o2] ![1] i2) y2) x
      = attnAt (m ((c : Thread nD τ).loc main_arg0)) (m ((c : Thread nD τ).loc main_arg1)) b i r h g d :=
  head_at (grid0.coords t) _ _ b i ((idx_coord t).trans (by omega)) _ _ _ _ _ _ _ _ _ _ _ _ r h g d x hx0 hx1
    (fun y j e0 e1 => ld1 m c t oq iq y j (by omega) (by omega))
    (fun hc y j e0 e1 => ld2 m c t (by omega) ok ik y j (by omega) (by omega))
    (fun y j e0 e1 => ld3 m c t ok ik y j (by omega) (by omega))
    (fun hc y j e0 e1 => ld4 m c t (by omega) ok ik y j (by omega) (by omega))
    (fun y j e0 e1 => ld5 m c t ok ik' y j (by omega) (by omega))
    (fun hc y j e0 e1 => ld6 m c t (by omega) ok ik y j (by omega) (by omega))
    (fun y j e0 e1 => ld7 m c t ok ik y j (by omega) (by omega))
    (fun hc y j e0 e1 => ld8 m c t (by omega) ok ik y j (by omega) (by omega))
    (fun y j e0 e1 => ld9 m c t ok ik' y j (by omega) (by omega))
    (fun j e => ld0 m c t o0 i0 y0 j (by omega)) (fun j e => ld0 m c t o1 i1 y1 j (by omega)) (fun j e => ld0 m c t o2 i2 y2 j (by omega))

/-- What grid point `t = 16 b + i` leaves in the output block is the windowed attention of block `i` of batch `b`. -/
theorem block (b i : Fin 16) (ht : t.val = b.val * 16 + i.val) (r : Fin 128) (h : Fin 4) (g : Fin 3) (d : Fin 128) :
    outsAt0 m c t (ix2 r ⟨h.val * 384 + g.val * 128 + d.val, by omega⟩)
      = attnAt (m ((c : Thread nD τ).loc main_arg0)) (m ((c : Thread nD τ).loc main_arg1)) b i r h g d := by
  unfold outsAt0
  frame_out
  canon_tiles x hx
  all_goals
    have e0 : r.val = (x 0).val := hx0
    have e1 : h.val * 384 + g.val * 128 + d.val = _ := hx1
  · rw [head3]; exact head_ld m c t b i ht r h g d x e0.symm (by omega) _ _ _ _ _ (by omega) (by omega) (by omega) (by omega) (by omega) _ _ _ _ _ _ _ _ _
  · rw [head2]; exact head_ld m c t b i ht r h g d x e0.symm (by omega) _ _ _ _ _ (by omega) (by omega) (by omega) (by omega) (by omega) _ _ _ _ _ _ _ _ _
  · rw [head1]; exact head_ld m c t b i ht r h g d x e0.symm (by omega) _ _ _ _ _ (by omega) (by omega) (by omega) (by omega) (by omega) _ _ _ _ _ _ _ _ _
  · rw [head0]; exact head_ld m c t b i ht r h g d x e0.symm (by omega) _ _ _ _ _ (by omega) (by omega) (by omega) (by omega) (by omega) _ _ _ _ _ _ _ _ _

end Cert.Attn
-- ==== Proof.AttnRef.lean ====
module

public import proofs.«01_k».proof.Proof.AttnSpec
public import proofs.«01_k».proof.Proof.Gen.ReferenceIdeal.Read

/-! The reference read at an index: its result at a latent row is `Cert.Attn.attnAt`. -/

@[expose] public section

set_option maxRecDepth 16384

noncomputable section

namespace Cert.AttnRef

open Cert.ReferenceIdeal Cert.ReferenceIdeal.Gen Cert.ReferenceIdeal.Read Idealize.ShloMosaic Idealize.SL.Sem
open Cert.Attn

variable (p : (⟨S36864x3072, .bf16⟩ : BufTy).Contents (Elt Ideal)) (sink : (⟨S12, .f32⟩ : BufTy).Contents (Elt Ideal))

theorem q_apply (b i : Fin 16) (r : Fin 128) (h : Fin 4) (g : Fin 3) (x : Fin 128) :
    val_main_v6 (F := Ideal) p (ix6 b i r h g x) = p (ix2 (queryRow b i r) ⟨h.val * 384 + g.val * 128 + x.val, by omega⟩) := by
  pointwise [val_main_v6, val_main_v5, val_main_v2, val_main_v1, val_main_v0]
  unfold queryRow
  blk_ext

/-- A key in reach is the array's row that holds it. -/
theorem k_apply (b i : Fin 16) (r : Fin 128) (k : Fin 640) (h : Fin 4) (x : Fin 128) (hr : InReach i.val r.val k.val) :
    val_main_v24 (F := Ideal) p (ix5 b i k h x) = p (ix2 (keyRow b i k) ⟨1536 + (h.val * 128 + x.val), by omega⟩) := by
  pointwise [val_main_v24, val_main_v23, val_main_v22, val_main_v21, val_main_v20, val_main_v19, val_main_v16, val_main_v15, val_main_v12, val_main_v11, val_main_v8, val_main_v7, val_main_v4, val_main_v3, val_main_v2, val_main_v1, val_main_v0]
  unfold keyRow
  unfold InReach at hr
  split_ifs <;> first | (exfalso; omega) | (blk_ext <;> (split_ifs <;> omega))

/-- A value in reach is the array's row that holds it. -/
theorem v_apply (b i : Fin 16) (r : Fin 128) (k : Fin 640) (h : Fin 4) (x : Fin 128) (hr : InReach i.val r.val k.val) :
    val_main_v30 (F := Ideal) p (ix5 b i k h x) = p (ix2 (keyRow b i k) ⟨2048 + (h.val * 128 + x.val), by omega⟩) := by
  pointwise [val_main_v30, val_main_v29, val_main_v28, val_main_v27, val_main_v26, val_main_v25, val_main_v18, val_main_v17, val_main_v14, val_main_v13, val_main_v10, val_main_v9, val_main_v4, val_main_v3, val_main_v2, val_main_v1, val_main_v0]
  unfold keyRow
  unfold InReach at hr
  split_ifs <;> first | (exfalso; omega) | (blk_ext <;> (split_ifs <;> omega))

/-- The band test of the reference: the key is at most 128 positions from the query. -/
theorem band (k r : ℕ) (hk : k < 384) (hr : r < 128) :
    IntOp.cmpi CmpIPredicate.sle (IntOp.absi (IntOp.subi (IntOp.subi (BitVec.ofNat 32 k) 128#32) (BitVec.ofNat 32 r))) 128#32 = 1#1
      ↔ r ≤ k ∧ k ≤ r + 256 := by
  have e : IntOp.subi (IntOp.subi (BitVec.ofNat 32 k) 128#32) (BitVec.ofNat 32 r) = IntOp.subi (BitVec.ofNat 32 (k + 256 - r)) 384#32 := by
    apply BitVec.eq_of_toNat_eq
    simp only [IntOp.subi, BitVec.toNat_sub, BitVec.toNat_ofNat]
    omega
  have hd : ∀ x : Fin 640, IntOp.cmpi CmpIPredicate.sle (IntOp.absi (IntOp.subi (BitVec.ofNat 32 x.val) 384#32)) 128#32 = 1#1
      ↔ 256 ≤ x.val ∧ x.val ≤ 512 := by decide +kernel
  rw [e, hd ⟨k + 256 - r, by omega⟩]
  dsimp only
  omega

/-- The reference's test that a key of the three blocks lies inside the sequence. -/
theorem inside (i k : ℕ) (hi : i < 16) (hk : k < 384) :
    IntOp.andi
        (IntOp.cmpi CmpIPredicate.sge (IntOp.addi (IntOp.muli (BitVec.ofNat 32 i) 128#32) (IntOp.subi (BitVec.ofNat 32 k) 128#32)) 0#32)
        (IntOp.cmpi CmpIPredicate.slt (IntOp.addi (IntOp.muli (BitVec.ofNat 32 i) 128#32) (IntOp.subi (BitVec.ofNat 32 k) 128#32)) 2048#32) = 1#1
      ↔ 128 ≤ 128 * i + k ∧ 128 * i + k < 2176 := by
  have e : IntOp.addi (IntOp.muli (BitVec.ofNat 32 i) 128#32) (IntOp.subi (BitVec.ofNat 32 k) 128#32)
      = IntOp.subi (BitVec.ofNat 32 (128 * i + k)) 128#32 := by
    apply BitVec.eq_of_toNat_eq
    simp only [IntOp.subi, IntOp.addi, IntOp.muli, BitVec.toNat_sub, BitVec.toNat_add, BitVec.toNat_mul, BitVec.toNat_ofNat]
    omega
  have hd : ∀ x : Fin 2304, IntOp.andi (IntOp.cmpi CmpIPredicate.sge (IntOp.subi (BitVec.ofNat 32 x.val) 128#32) 0#32)
      (IntOp.cmpi CmpIPredicate.slt (IntOp.subi (BitVec.ofNat 32 x.val) 128#32) 2048#32) = 1#1
      ↔ 128 ≤ x.val ∧ x.val < 2176 := by decide +kernel
  rw [e, hd ⟨128 * i + k, by omega⟩]

/-- The reference's mask says whether the key is in reach of the query. -/
theorem mask_apply (i : Fin 16) (r : Fin 128) (k : Fin 640) :
    val_main_v62 (F := Ideal) (ix3 i r k) = 1#1 ↔ InReach i.val r.val k.val := by
  pointwise [val_main_v62, val_main_v61, val_main_c_6, val_main_v60, val_main_v59, val_main_v58, val_main_v57, val_main_v56, val_main_v55, val_main_v54, val_main_c_5, val_main_v53, val_main_v52, val_main_c_4, val_main_v51, val_main_v50, val_main_v49, val_main_v48, val_main_v47, val_main_v46, val_main_v45, val_main_c_3, val_main_v44, val_main_v43, val_main_v42, val_main_v41, val_main_c_2, val_main_v40, val_main_v39, val_main_v38, val_main_v37, val_main_v36, val_main_v35, val_main_v34, val_main_v33, val_main_v32, val_main_c_1, val_main_v31]
  have hi := i.isLt
  have hr := r.isLt
  have hk := k.isLt
  generalize i.val = i at *
  generalize r.val = r at *
  generalize k.val = k at *
  unfold InReach
  split_ifs with h
  · have hb := band k r h hr
    generalize IntOp.cmpi CmpIPredicate.sle (IntOp.absi (IntOp.subi (IntOp.subi (BitVec.ofNat 32 k) 128#32) (BitVec.ofNat 32 r))) 128#32 = w at hb ⊢
    rcases BitVec.eq_zero_or_eq_one w with rfl | rfl
    · have hb' : ¬(r ≤ k ∧ k ≤ r + 256) := fun h' => absurd (hb.mpr h') (by decide)
      clear hb
      rw [(by decide : ∀ x : BitVec 1, IntOp.andi 0#1 x = 0#1)]
      refine iff_of_false (by decide) ?_
      omega
    · have hb' : r ≤ k ∧ k ≤ r + 256 := hb.mp rfl
      clear hb
      rw [(by decide : ∀ x : BitVec 1, IntOp.andi 1#1 x = x), inside i k hi h]
      omega
  · simp; omega

theorem s_apply (b i : Fin 16) (h : Fin 4) (g : Fin 3) (r : Fin 128) (k : Fin 640) :
    val_main_v68 (F := Ideal) p (ix6 b i h g r k)
      = if InReach i.val r.val k.val then
      (∑ x : Fin 128, p (ix2 (queryRow b i r) ⟨h.val * 384 + g.val * 128 + x.val, by omega⟩)
        * p (ix2 (keyRow b i k) ⟨1536 + (h.val * 128 + x.val), by omega⟩)) * Ideal.ofBits .f32 0x3DB504F3#32
      else ⊥ := by
  have hm := mask_apply i r k
  have e : val_main_v68 (F := Ideal) p (ix6 b i h g r k) = Scalar.select (val_main_v62 (F := Ideal) (ix3 i r k))
      ((∑ x, val_main_v24 (F := Ideal) p (ix5 b i k h x) * val_main_v6 (F := Ideal) p (ix6 b i r h g x)) * Ideal.ofBits .f32 0x3DB504F3#32)
      (Ideal.ofBits .f32 0xFF800000#32) := by
    unfold val_main_v68 val_main_call2_v2 val_main_call2_v1 val_main_call2_v0 val_main_cst_7 val_main_v67 val_main_v66 val_main_v65 val_main_cst val_main_v64 val_main_v63
    generalize val_main_v62 (F := Ideal) = M
    generalize val_main_v24 (F := Ideal) p = K
    generalize val_main_v6 (F := Ideal) p = Q
    pointwise
    rfl
  rw [e, negInf]
  clear e
  by_cases hr : InReach i.val r.val k.val
  · rw [if_pos hr, hm.mpr hr]
    show (_ : EReal) = _
    simp only [k_apply p b i r k h _ hr, q_apply, mul_comm]
    rfl
  · rw [if_neg hr, (BitVec.eq_zero_or_eq_one _).resolve_right (fun h' => hr (hm.mp h'))]; rfl

/-- A latent row of the result is the row of the attention's array. -/
theorem o_apply (b i : Fin 16) (h : Fin 4) (g : Fin 3) (r : Fin 128) (d : Fin 128) :
    val_main_v91 (F := Ideal) p sink (ix2 (queryRow b i r) ⟨h.val * 384 + g.val * 128 + d.val, by omega⟩) = val_main_v86 (F := Ideal) p sink (ix6 b i h g r d) := by
  unfold val_main_v91 val_main_v89 val_main_v88 val_main_v87 queryRow
  generalize val_main_v86 (F := Ideal) p sink = O
  pointwise
  rw [dif_pos (by omega)]

theorem sink_apply (b i : Fin 16) (h : Fin 4) (g : Fin 3) (r : Fin 128) :
    val_main_v72 (F := Ideal) sink (ix5 b i h g r) = sink (ix1 ⟨h.val * 3 + g.val, by omega⟩) := by
  pointwise [val_main_v72, val_main_v70, val_main_v69]

theorem sink_apply' (b i : Fin 16) (h : Fin 4) (g : Fin 3) (r : Fin 128) :
    val_main_v79 (F := Ideal) sink (ix5 b i h g r) = sink (ix1 ⟨h.val * 3 + g.val, by omega⟩) := by
  pointwise [val_main_v79, val_main_v70, val_main_v69]

/-- A maximum over one axis on the host, joined with another array, at an index: the fold over that axis's coordinates. -/
theorem max_reduce {s t u : Shape} {a : Fin s.rank} (S : s.Idx → EReal) (T : t.Idx → EReal) (init : u.Idx → EReal)
    (h' : s.ReducesTo [a] t) (h : s.Reduces [a] t) (hu : 0 < u.numel) (j : t.Idx) {n : ℕ} (hn : s.size a = n)
    (f : Fin n → s.Idx) (hf : ∀ k, h.lift j (Fin.cast hn.symm k) = f k) :
    maximumf (F := Ideal) (φ := .f32) (Host.reduce (FloatOps.maximumf (F := Ideal) (φ := .f32)) S init h' hu) T j
      = max (Finset.univ.fold max (init (Shape.Idx.first hu)) fun k => S (f k)) (T j) := by
  subst hn
  have e := Host.reduce_eq_fold_single (FloatOps.maximumf (F := Ideal) (φ := .f32)) S init h' h hu j
  obtain rfl : (fun k => h.lift j k) = f := funext hf
  exact congrArg (fun x : EReal => max x (T j)) e

/-- The maximum over a row's scores and its sink. -/
theorem m_apply (b i : Fin 16) (h : Fin 4) (g : Fin 3) (r : Fin 128) :
    val_main_v73 (F := Ideal) p sink (ix5 b i h g r)
      = max (Finset.univ.fold max (Ideal.ofBits .f32 0xFF800000#32) fun k => val_main_v68 (F := Ideal) p (ix6 b i h g r k))
          (sink (ix1 ⟨h.val * 3 + g.val, by omega⟩)) := by
  rw [← sink_apply sink b i h g r]
  unfold val_main_v73 val_main_v71 val_main_cst_8
  generalize val_main_v68 (F := Ideal) p = S
  generalize val_main_v72 (F := Ideal) sink = T
  have hR : S16x16x4x3x128x640.Reduces [5] S16x16x4x3x128 := by decide
  exact max_reduce S T (constant (F := Ideal) S_ .f32 0xFF800000#32) reducesTo_S16x16x4x3x128x640_S16x16x4x3x128_d5 hR h_S_ (ix5 b i h g r) rfl
    (fun k : Fin 640 => ix6 b i h g r k) fun k => funext fun a => Fin.ext
      (by match a with | ⟨0, _⟩ => rfl | ⟨1, _⟩ => rfl | ⟨2, _⟩ => rfl | ⟨3, _⟩ => rfl | ⟨4, _⟩ => rfl | ⟨5, _⟩ => rfl)

/-- The weight of a key. -/
theorem w_apply (b i : Fin 16) (h : Fin 4) (g : Fin 3) (r : Fin 128) (k : Fin 640) :
    val_main_v77 (F := Ideal) p sink (ix6 b i h g r k)
      = Ideal.exp (val_main_v68 (F := Ideal) p (ix6 b i h g r k) - val_main_v73 (F := Ideal) p sink (ix5 b i h g r)) := by
  unfold val_main_v77 val_main_v76 val_main_v75 val_main_v74
  generalize val_main_v68 (F := Ideal) p = S
  generalize val_main_v73 (F := Ideal) p sink = M
  pointwise

/-- The denominator of a row. -/
theorem d_apply (b i : Fin 16) (h : Fin 4) (g : Fin 3) (r : Fin 128) :
    val_main_v82 (F := Ideal) p sink (ix5 b i h g r)
      = ∑ k, val_main_v77 (F := Ideal) p sink (ix6 b i h g r k)
        + Ideal.exp (sink (ix1 ⟨h.val * 3 + g.val, by omega⟩) - val_main_v73 (F := Ideal) p sink (ix5 b i h g r)) := by
  rw [val_main_v82_apply, val_main_v78_apply, val_main_v81_apply, val_main_v80_apply, sink_apply' sink b i h g r]
  generalize val_main_v77 (F := Ideal) p sink = W
  have e : val_main_cst_9 (F := Ideal) (Shape.Idx.first h_S_) = (0 : EReal) := Ideal.ofBits_zero_f32
  rw [e, zero_add]
  refine congrArg (fun x : EReal => x + _) (Finset.sum_congr rfl fun k _ => ?_)
  exact congrArg W (funext fun a => Fin.ext (by match a with | ⟨0, _⟩ => rfl | ⟨1, _⟩ => rfl | ⟨2, _⟩ => rfl | ⟨3, _⟩ => rfl | ⟨4, _⟩ => rfl | ⟨5, _⟩ => rfl))

/-- The weighted values of a row. -/
theorem n_apply (b i : Fin 16) (h : Fin 4) (g : Fin 3) (r : Fin 128) (d : Fin 128) :
    val_main_v83 (F := Ideal) p sink (ix6 b i h g r d)
      = ∑ k, val_main_v77 (F := Ideal) p sink (ix6 b i h g r k) * val_main_v30 (F := Ideal) p (ix5 b i k h d) := by
  rw [val_main_v83_apply]
  generalize val_main_v77 (F := Ideal) p sink = W
  generalize val_main_v30 (F := Ideal) p = V
  refine Finset.sum_congr rfl fun k _ => ?_
  have e1 : lidx_main_v83 (ix6 b i h g r d) k = ix6 b i h g r k := funext fun a => Fin.ext (by fin_cases a <;> rfl)
  have e2 : ridx_main_v83 (ix6 b i h g r d) k = ix5 b i k h d := funext fun a => Fin.ext (by fin_cases a <;> rfl)
  rw [e1, e2]

/-- The reference's result at a latent row is the windowed attention. -/
theorem ref_apply (b i : Fin 16) (r : Fin 128) (h : Fin 4) (g : Fin 3) (d : Fin 128) :
    val_main_v91 (F := Ideal) p sink (ix2 (queryRow b i r) ⟨h.val * 384 + g.val * 128 + d.val, by omega⟩)
      = attnAt p sink b i r h g d := by
  rw [o_apply]
  have e : val_main_v86 (F := Ideal) p sink (ix6 b i h g r d)
      = Ideal.div (val_main_v83 (F := Ideal) p sink (ix6 b i h g r d)) (val_main_v82 (F := Ideal) p sink (ix5 b i h g r)) := by
    unfold val_main_v86 val_main_v85 val_main_v84
    generalize val_main_v83 (F := Ideal) p sink = A
    generalize val_main_v82 (F := Ideal) p sink = B
    pointwise
  rw [e, n_apply, d_apply]
  simp only [w_apply, m_apply]
  show attn (fun k => val_main_v68 (F := Ideal) p (ix6 b i h g r k)) (fun k => val_main_v30 (F := Ideal) p (ix5 b i k h d)) _ = _
  refine attn_congr (fun k => s_apply p b i h g r k) fun k => ?_
  by_cases hr : InReach i.val r.val k.val
  · exact .inr (v_apply p b i r k h d hr)
  · exact .inl ((s_apply p b i h g r k).trans (if_neg hr))

end Cert.AttnRef
-- ==== Proof.AttnClaim.lean ====
module

public import proofs.«01_k».proof.Defs
public import proofs.«01_k».proof.Proof.AttnBlock
public import proofs.«01_k».proof.Proof.AttnRef
public import proofs.«01_k».proof.Proof.Gen.Kernel.Frame

/-! The claims about the windowed attention: the kernel's array on the latent rows, and the certificate's statements. -/

@[expose] public section

set_option maxRecDepth 16384

noncomputable section

namespace Cert.Attn

open Cert.KernelIdeal Cert.KernelIdeal.Gen Idealize.ShloMosaic Idealize.ShloMosaic.TcCoe Idealize.SL.Sem

/-- The kernel's result array after the run, at a latent row: the windowed attention of that row. -/
theorem kernel_apply (m : (ℓ : Loc nD τ sig) → Buf (Elt Ideal) ℓ) (c : Dev nD) (b i : Fin 16) (r : Fin 128) (h : Fin 4)
    (g : Fin 3) (d : Fin 128) :
    (dats m 0 c).arrAt 10 cfg0.N (ix2 (queryRow b i r) ⟨h.val * 384 + g.val * 128 + d.val, by omega⟩)
      = attnAt (m ((c : Thread nD τ).loc main_arg0)) (m ((c : Thread nD τ).loc main_arg1)) b i r h g d := by
  have hN : cfg0.N = 256 := by decide +kernel
  have ht : b.val * 16 + i.val < cfg0.N := by omega
  have hf : ∀ t : Fin cfg0.N, (cfg0.win 10).flush t = true := (by decide +kernel : ∀ t : Fin grid0.N, win0_10.flush t = true)
  have hx : ∀ t : Fin cfg0.N, win0_10.index t 1 = 0 := (by decide +kernel : ∀ t : Fin grid0.N, win0_10.index t 1 = 0)
  have e := congrFun (Cert.KernelIdeal.Value.blocks10 m c ⟨_, ht⟩ (hf _))
    (ix2 r ⟨h.val * 384 + g.val * 128 + d.val, by omega⟩)
  rw [Cert.KernelIdeal.Value.flushed10] at e
  refine Eq.trans ?_ (e.trans (block m c ⟨_, ht⟩ b i rfl r h g d))
  refine congrArg ((dats m 0 c).arrAt 10 cfg0.N) (funext fun a => Fin.ext ?_)
  match a with
  | ⟨0, _⟩ =>
    show b.val * 2048 + i.val * 128 + r.val = win0_10.index ⟨_, ht⟩ 0 * 128 + 1 * r.val
    have e0 : win0_10.index ⟨_, ht⟩ 0 = b.val * 16 + i.val := Cert.KernelIdeal.Value.idx_pt10 ⟨_, ht⟩
    rw [e0]; omega
  | ⟨1, _⟩ =>
    show h.val * 384 + g.val * 128 + d.val = win0_10.index ⟨_, ht⟩ 1 * 1536 + 1 * (h.val * 384 + g.val * 128 + d.val)
    rw [hx ⟨_, ht⟩]; omega

/-- An index in the latent rows, by its batch, block, row, key head, query head and lane. -/
theorem latent_index (y : S36864x1536.Idx) (hy : (y 0).val < 32768) : ∃ (b i : Fin 16) (r : Fin 128) (h : Fin 4) (g : Fin 3)
    (d : Fin 128), y = ix2 (queryRow b i r) ⟨h.val * 384 + g.val * 128 + d.val, by omega⟩ := by
  have h1 : (y 1).val < 1536 := (y 1).isLt
  refine ⟨⟨(y 0).val / 2048, by omega⟩, ⟨(y 0).val / 128 % 16, by omega⟩, ⟨(y 0).val % 128, by omega⟩,
    ⟨(y 1).val / 384, by omega⟩, ⟨(y 1).val / 128 % 3, by omega⟩, ⟨(y 1).val % 128, by omega⟩, funext fun a => Fin.ext ?_⟩
  match a with
  | ⟨0, _⟩ => show (y 0).val = (y 0).val / 2048 * 2048 + (y 0).val / 128 % 16 * 128 + (y 0).val % 128; omega
  | ⟨1, _⟩ => show (y 1).val = (y 1).val / 384 * 384 + (y 1).val / 128 % 3 * 128 + (y 1).val % 128; omega

/-- The mask's one side condition. -/
theorem on_facts : Cert.On_latent_rows.Facts := ⟨by decide⟩

/-- The mask selects the latent rows only. -/
theorem on_rows (x : FVec Ideal Cert.On_latent_rows.S36864x3072 .bf16) (s : FVec Ideal Cert.On_latent_rows.S12 .f32)
    (y : S36864x1536.Idx) (hy : @Cert.On_latent_rows.fn on_facts Ideal _ x s y = 1#1) : (y 0).val < 32768 := by
  have h0 : (y 0).val < 36864 := (y 0).isLt
  by_contra hn
  have e : IntOp.cmpi CmpIPredicate.slt (BitVec.ofNat 32 (y 0).val) 32768#32 = 1#1 := hy
  generalize (y 0).val = n at *
  rw [IntOp.cmpi_slt] at e
  have e1 : (BitVec.ofNat 32 n).toInt = n := by
    rw [BitVec.toInt_eq_toNat_of_lt (by rw [BitVec.toNat_ofNat]; omega), BitVec.toNat_ofNat]; omega
  have e2 : (32768#32).toInt = 32768 := by decide
  omega

/-- The reference runs and leaves its arguments and the semaphores as they were. -/
theorem frame_reference : Cert.quiescent_ReferenceIdeal (hReferenceIdeal := Cert.ReferenceIdeal.Gen.facts) := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The kernel and the reference compute the same function on the latent rows. -/
theorem algebraic : Cert.algebraic_KernelIdeal_ReferenceIdeal_on_latent_rows (hKernelIdeal := Cert.KernelIdeal.Gen.facts)
    (hReferenceIdeal := Cert.ReferenceIdeal.Gen.facts) (hOn_latent_rows := on_facts) := by
  intro m g m' g' _ hm
  refine ⟨fun c => (dats m 0 c).arrAt 10 cfg0.N, ?_, ?_⟩
  · exact (θ_run Cert.KernelIdeal.defs _ _).mono (fun r h c => ⟨fun y _ => congrFun (h c).1 y, (h c).2⟩)
      (Cert.KernelIdeal.Value.run_blocks m g)
  · refine (θ_run Cert.ReferenceIdeal.defs _ _).mono (fun r h c => ⟨fun y hy => ?_, (h c).2⟩)
      (Cert.ReferenceIdeal.Value.run (F := Ideal) m' g')
    obtain ⟨b, i, r', h', g', d, ey⟩ := latent_index y (on_rows _ _ y hy)
    rw [ey]
    refine (congrFun (h c).1 _).trans ((congrFun (Cert.ReferenceIdeal.Read.val_main_v91_eq m' c) _).trans ?_)
    refine (Cert.AttnRef.ref_apply _ _ b i r' h' g' d).trans (Eq.trans ?_ (kernel_apply m c b i r' h' g' d).symm)
    rw [(hm c).1, (hm c).2]

end Cert.Attn
-- ==== Proof.ExpertRun.lean ====
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.WholeRead
public import Idealize.ShloMosaic.Lib.WritesUnit

/-! The experts' call, run: for every list of work whose blocks lie inside the arrays and whose items are each marked valid
(a positive word) or not (zero), the call terminates without a fault, its arguments end unchanged, and its result array is
what the items write back, block by block. A valid item leaves its expert's output in the staging buffer, the other items
leave zeros. -/

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the call starts -/

/-- A core's buffers when the call starts: the weights' casts are done. -/
abbrev V (c : Dev nD) (b : Ref sig .tc) : Buf (Elt F) ((c : Thread nD τ).loc b) := StableHlo.after hostOps0 (fun b => m (c, b)) b

theorem casts_fresh : (hostOps0 : List (HloOp τ sig (Elt F))).Forall fun op => op.fresh = ∅ := by
  simp only [List.Forall]; repeat' constructor

set_option maxHeartbeats 800000 in
/-- The program is the weights' casts and then the call. -/
theorem main_casts (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub casts_fresh main_chain

/-- The casts write no buffer but the three cast weights. -/
theorem V_kept (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

/-- The four tables of the list of work: each item's tile, expert, slot and validity. -/
def tbl : pre0.Contents (Elt F) := fun j => V m (0 : Dev nD) (pre0.ref j)

theorem V_tbl (c : Dev nD) (j : Fin 4) : V m c (pre0.ref j) = tbl m j := by
  obtain rfl : c = 0 := Subsingleton.elim _ _; rfl

/-- Every item's blocks lie inside the arrays. -/
abbrev Inside : Prop := ok0 (F := F) (tbl m)
abbrev adm (hO : Inside m) : (pcfg0 (F := F)).Adm := ⟨tbl m, hO⟩
abbrev cfgM (hO : Inside m) : Pipeline.Cfg sig Λ₀ := cfg0 (adm m hO)

/-- The tables as the body is handed them. -/
abbrev tb0 : Memref sig .tc .smem S336 .i32 := Memref.whole main_arg0
abbrev tb1 : Memref sig .tc .smem S336 .i32 := Memref.whole main_arg1
abbrev tb2 : Memref sig .tc .smem S336 .i32 := Memref.whole main_arg2
abbrev tb3 : Memref sig .tc .smem S336 .i32 := Memref.whole main_arg3

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The tables' halves that the body reads, table by table. -/
theorem tables_eq (c : Dev nD) : (Pipeline.ΦT pre0 (tbl m) c : sProp 𝕄)
    = iprop(tbPt c tb0 (tbl m 0) ∗ tbPt c tb1 (tbl m 1) ∗ tbPt c tb2 (tbl m 2) ∗ tbPt c tb3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- The validity word that the body reads at a point, through the first load and through the second. -/
abbrev word1 (c : Dev nD) (i : grid0.Coords) (x : TbBuf (F := F) c tb3) : BitVec 32 :=
  tb3.view.readAt (Elt F) (Rect.unit (s := S336) (k0_off1 i) S1.size (k0_off1_inb i)).toLoadRect x (Shape.Idx.first (numel1_S1.symm ▸ Nat.one_pos))
abbrev word2 (c : Dev nD) (i : grid0.Coords) (x : TbBuf (F := F) c tb3) : BitVec 32 :=
  tb3.view.readAt (Elt F) (Rect.unit (s := S336) (k0_off2 i) S1.size (k0_off2_inb i)).toLoadRect x (Shape.Idx.first (numel1_S1.symm ▸ Nat.one_pos))

/-- The item of a grid point. -/
abbrev item (i : grid0.Coords) : S336.Idx := fun a => ⟨(i 0).val, by fin_cases a; exact (i 0).isLt⟩

theorem off1_eq (i : grid0.Coords) : k0_off1 i = ![(i 0).val] := by
  have h : (i 0).val < 336 := (i 0).isLt
  unfold k0_off1
  funext a; fin_cases a
  show (BitVec.ofNat 32 (i 0).val).toNat = (i 0).val
  rw [BitVec.toNat_ofNat]; omega
theorem off2_eq (i : grid0.Coords) : k0_off2 i = ![(i 0).val] := off1_eq i

/-- An entry of a rectangle of one element at an item's offset is the item's. -/
theorem emb_item (i : grid0.Coords) (off : Fin 1 → ℕ) (h : off = ![(i 0).val]) (inb : ∀ a, off a + S1.size a ≤ S336.size a)
    (x : S1.Idx) : (Rect.unit (s := S336) off S1.size inb).emb x = item i := by
  subst h
  funext a; refine Fin.ext ?_
  have hx : (x 0).val < 1 := (x 0).isLt
  fin_cases a
  show (i 0).val + 1 * (x 0).val = (i 0).val
  omega

theorem word1_eq (c : Dev nD) (i : grid0.Coords) (x : TbBuf (F := F) c tb3) : word1 c i x = x (item i) :=
  congrArg x (emb_item i _ (off1_eq i) _ _)
theorem word2_eq (c : Dev nD) (i : grid0.Coords) (x : TbBuf (F := F) c tb3) : word2 c i x = x (item i) :=
  congrArg x (emb_item i _ (off2_eq i) _ _)

/-- Every item is marked valid or not. -/
def Marked : Prop := ∀ i : grid0.Coords,
  (k0_cond1 (tbl m 3 (item i)) = 1#1 ∧ ¬k0_cond2 (tbl m 3 (item i)) = 1#1)
    ∨ (¬k0_cond1 (tbl m 3 (item i)) = 1#1 ∧ k0_cond2 (tbl m 3 (item i)) = 1#1)

/-- No window is idle at any point: each item stores its block. -/
theorem idle_none (hO : Inside m) (hM : Marked m) (w : Fin 5) (i : grid0.Coords) : idle0 (F := F) (tbl m) w i = false := by
  match w with
  | 0 | 1 | 2 | 3 => rfl
  | 4 =>
    have e : ∀ off : Fin 1 → ℕ, off = ![(i 0).val] → (tbl m).atD 3 off = tbl m 3 (item i) := by
      intro off h; subst h
      refine (dif_pos (fun a => ?_)).trans (congrArg (tbl m 3) (funext fun a => Fin.ext ?_))
      · fin_cases a; exact (i 0).isLt
      · fin_cases a; rfl
    show (!(k0_cond1 ((tbl m).atD 3 (k0_off1 i)) == 1#1) && !(k0_cond2 ((tbl m).atD 3 (k0_off2 i)) == 1#1)) = false
    rw [e _ (off1_eq i), e _ (off2_eq i)]
    rcases hM i with ⟨h, -⟩ | ⟨-, h⟩
    · rw [h]; rfl
    · rw [h]; simp

/-- A window's block at a point, read off its array as the call finds it. -/
def iblk (hO : Inside m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-! ## The body on any staging buffers -/

/-- A load of a whole buffer reads its contents. -/
theorem load_whole {Val : EltTy → Type} {sig' : RefSig} {κ : Kind} {sp : Space} {S : Shape} {e : EltTy} {M : Memref sig' κ sp S e} (h : M.IsWhole)
    (X : S.Idx → Val e) (off : Fin S.rank → ℕ) (h0 : off = fun _ => 0) (inb : ∀ a, off a + S.size a ≤ S.size a) :
    View.readAt Val M.view (Rect.unit off S.size inb).toLoadRect (h.unread X) = X := by
  subst h0
  funext x
  refine (h.readAt_unread X _ x).trans (congrArg X (funext fun a => Fin.ext ?_))
  show 0 + 1 * (x a).val = (x a).val
  omega

/-- A store over a whole buffer leaves what it stores. -/
theorem store_whole {Val : EltTy → Type} {sig' : RefSig} {κ : Kind} {sp : Space} {S : Shape} {e : EltTy} (v : View sig' κ sp S e)
    (f : v.ty.Contents Val) (off : Fin S.rank → ℕ) (h0 : off = fun _ => 0) (inb : ∀ a, off a + S.size a ≤ S.size a)
    (w : S.Idx → Val e) : v.read Val (v.writes Val f [⟨Rect.unit off S.size inb, w⟩]) = w := by
  funext y
  exact View.read_writes_cons_unit_of_mem v f inb w [] y y h0 fun a => (Nat.zero_add _).symm

section body

variable (c : Dev nD) (i : grid0.Coords)
  (arg5 : Memref sig .tc .vmem S256x2048 .f32) (harg5 : arg5.IsWhole) (arg6 : Memref sig .tc .vmem S1x1x2048x1024 .bf16)
  (harg6 : arg6.IsWhole) (arg7 : Memref sig .tc .vmem S1x1x2048x1024 .bf16) (harg7 : arg7.IsWhole)
  (arg8 : Memref sig .tc .vmem S1x1x1024x2048 .bf16) (harg8 : arg8.IsWhole) (arg9 : Memref sig .tc .vmem S256x2048 .f32)
  (harg9 : arg9.IsWhole)
  (x0 : Vec F S256x2048 .f32) (x1 x2 : Vec F S1x1x2048x1024 .bf16) (x3 : Vec F S1x1x1024x2048 .bf16)
  (xt0 : TbBuf (F := F) c tb0) (xt1 : TbBuf (F := F) c tb1) (xt2 : TbBuf (F := F) c tb2) (xt3 : TbBuf (F := F) c tb3)

/-- The body's triple: from the inputs' buffers at `x0 … x3` and the tables, it ends with the inputs' buffers and the tables as
they were and the output's buffer at `o`. -/
abbrev Runs (o : Vec F S256x2048 .f32) : Prop :=
  ∀ (E : Set ℕ) (K : PUnit → sProp 𝕄),
    iprop(owns (c : Thread nD τ) arg5 fullShare x0 ∗ owns (c : Thread nD τ) arg6 fullShare x1 ∗ owns (c : Thread nD τ) arg7 fullShare x2
        ∗ owns (c : Thread nD τ) arg8 fullShare x3 ∗ (∃ d, owns (c : Thread nD τ) arg9 fullShare d)
        ∗ tbPt c tb0 xt0 ∗ tbPt c tb1 xt1 ∗ tbPt c tb2 xt2 ∗ tbPt c tb3 xt3
        ∗ (iprop(owns (c : Thread nD τ) arg5 fullShare x0 ∗ owns (c : Thread nD τ) arg6 fullShare x1
            ∗ owns (c : Thread nD τ) arg7 fullShare x2 ∗ owns (c : Thread nD τ) arg8 fullShare x3
            ∗ owns (c : Thread nD τ) arg9 fullShare o
            ∗ tbPt c tb0 xt0 ∗ tbPt c tb1 xt1 ∗ tbPt c tb2 xt2 ∗ tbPt c tb3 xt3) -∗ K ⟨⟩))
      ⊢ wp frame (wpE (defs₀ (F := F)) Variants.none c none) E
        (cc0_moe_experts i tb0 (Memref.isWhole_whole _) tb1 (Memref.isWhole_whole _) tb2 (Memref.isWhole_whole _) tb3 (Memref.isWhole_whole _)
          arg5 harg5 arg6 harg6 arg7 harg7 arg8 harg8 arg9 harg9) K

set_option maxHeartbeats 1000000 in
/-- A valid item leaves its expert's output. -/
theorem run_valid (hc1 : k0_cond1 (word1 c i xt3) = 1#1) (hc2 : ¬k0_cond2 (word2 c i xt3) = 1#1) :
    Runs c i arg5 harg5 arg6 harg6 arg7 harg7 arg8 harg8 arg9 harg9 x0 x1 x2 x3 xt0 xt1 xt2 xt3 (k0_pay1 x0 x1 x2 x3) := by
  intro E K
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, HT0, HT1, HT2, HT3, Hk⟩
  obtain rfl := harg5.eq_unread hf0; obtain rfl := harg6.eq_unread hf1; obtain rfl := harg7.eq_unread hf2; obtain rfl := harg8.eq_unread hf3
  sl_exec (disch := first | sl_exact hc1 | sl_exact hc2)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr
    swap; · iexact H4
    ipureintro
    rw [store_whole _ _ _ (by funext a; fin_cases a <;> rfl), load_whole harg5 _ _ (by funext a; fin_cases a <;> rfl),
      load_whole harg6 _ _ (by funext a; fin_cases a <;> rfl), load_whole harg7 _ _ (by funext a; fin_cases a <;> rfl),
      load_whole harg8 _ _ (by funext a; fin_cases a <;> rfl)]
  isplitl [HT0]; · iexact HT0
  isplitl [HT1]; · iexact HT1
  isplitl [HT2]; · iexact HT2
  iexact HT3

set_option maxHeartbeats 1000000 in
/-- Any other item leaves zeros. -/
theorem run_empty (hc1 : ¬k0_cond1 (word1 c i xt3) = 1#1) (hc2 : k0_cond2 (word2 c i xt3) = 1#1) :
    Runs c i arg5 harg5 arg6 harg6 arg7 harg7 arg8 harg8 arg9 harg9 x0 x1 x2 x3 xt0 xt1 xt2 xt3 (k0_pay2) := by
  intro E K
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%d4, %f4, -, H4⟩, HT0, HT1, HT2, HT3, Hk⟩
  obtain rfl := harg5.eq_unread hf0; obtain rfl := harg6.eq_unread hf1; obtain rfl := harg7.eq_unread hf2; obtain rfl := harg8.eq_unread hf3
  sl_exec (disch := first | sl_exact hc1 | sl_exact hc2)
  sl_step
  iapply Hk
  isplitl [H0]
  · iexists _; isplitr; · ipureintro; exact harg5.read_unread _
    iexact H0
  isplitl [H1]
  · iexists _; isplitr; · ipureintro; exact harg6.read_unread _
    iexact H1
  isplitl [H2]
  · iexists _; isplitr; · ipureintro; exact harg7.read_unread _
    iexact H2
  isplitl [H3]
  · iexists _; isplitr; · ipureintro; exact harg8.read_unread _
    iexact H3
  isplitl [H4]
  · iexists _; isplitr
    swap; · iexact H4
    ipureintro
    exact store_whole _ _ _ (by funext a; fin_cases a <;> rfl) _ _
  isplitl [HT0]; · iexact HT0
  isplitl [HT1]; · iexact HT1
  isplitl [HT2]; · iexact HT2
  iexact HT3

end body

/-! ## The pipeline's proof data -/

/-- What the body leaves in the output's staging buffer at a point. -/
def left (hO : Inside m) (c : Dev nD) (t : Fin (cfgM m hO).N) : Vec F S256x2048 .f32 :=
  if k0_cond1 (tbl m 3 (item (grid0.coords t))) = 1#1 then
    k0_pay1 (iblk m hO c 0 t) (iblk m hO c 1 t) (iblk m hO c 2 t) (iblk m hO c 3 t)
  else k0_pay2

/-- The proof data: the inputs' buffers hold their blocks, the output's what the body leaves; the tables pass through. -/
def dats (hO : Inside m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => left m hO c t
  Φ _ := iprop(Pipeline.ΦA spec0 c ∗ Pipeline.ΦT pre0 (tbl m) c)
  q _ := fullShare
  owed _ := 0

theorem A_eq (hO : Inside m) (c : Dev nD) (w : Fin (cfgM m hO).W) : (dats m hO 0 c).A w = V m c (Pipeline.arrRef spec0 w) := by
  dsimp only [dats]

theorem after_out (hO : Inside m) (c : Dev nD) (t : Fin (cfgM m hO).N) : (dats m hO 0 c).after 4 t = left m hO c t := by
  dsimp only [dats]; try rfl

/-- Input 0's buffer holds its block, before the body and after it. -/
theorem after0 (hO : Inside m) (c : Dev nD) (t : Fin (cfgM m hO).N) : (dats m hO 0 c).after 0 t = iblk m hO c 0 t := by
  dsimp only [dats]; try rfl
theorem before0 (hO : Inside m) (c : Dev nD) (t : Fin (cfgM m hO).N) (d) : (dats m hO 0 c).before 0 t d = iblk m hO c 0 t :=
  ((dats m hO 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

/-- Input 1's buffer holds its block, before the body and after it. -/
theorem after1 (hO : Inside m) (c : Dev nD) (t : Fin (cfgM m hO).N) : (dats m hO 0 c).after 1 t = iblk m hO c 1 t := by
  dsimp only [dats]; try rfl
theorem before1 (hO : Inside m) (c : Dev nD) (t : Fin (cfgM m hO).N) (d) : (dats m hO 0 c).before 1 t d = iblk m hO c 1 t :=
  ((dats m hO 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- Input 2's buffer holds its block, before the body and after it. -/
theorem after2 (hO : Inside m) (c : Dev nD) (t : Fin (cfgM m hO).N) : (dats m hO 0 c).after 2 t = iblk m hO c 2 t := by
  dsimp only [dats]; try rfl
theorem before2 (hO : Inside m) (c : Dev nD) (t : Fin (cfgM m hO).N) (d) : (dats m hO 0 c).before 2 t d = iblk m hO c 2 t :=
  ((dats m hO 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- Input 3's buffer holds its block, before the body and after it. -/
theorem after3 (hO : Inside m) (c : Dev nD) (t : Fin (cfgM m hO).N) : (dats m hO 0 c).after 3 t = iblk m hO c 3 t := by
  dsimp only [dats]; try rfl
theorem before3 (hO : Inside m) (c : Dev nD) (t : Fin (cfgM m hO).N) (d) : (dats m hO 0 c).before 3 t d = iblk m hO c 3 t :=
  ((dats m hO 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The body obligation -/

abbrev stg0 (hO : Inside m) (t : Fin (cfgM m hO).N) : Memref sig .tc .vmem S256x2048 .f32 := spec0_0.stage ((cfgM m hO).slots t 0)
abbrev whole0 (hO : Inside m) (t : Fin (cfgM m hO).N) : (stg0 m hO t).IsWhole := hstage0_0 (((cfgM m hO).slots t 0).cast nbuf0_0)
abbrev stg1 (hO : Inside m) (t : Fin (cfgM m hO).N) : Memref sig .tc .vmem S1x1x2048x1024 .bf16 := spec0_1.stage ((cfgM m hO).slots t 1)
abbrev whole1 (hO : Inside m) (t : Fin (cfgM m hO).N) : (stg1 m hO t).IsWhole := hstage0_1 (((cfgM m hO).slots t 1).cast nbuf0_1)
abbrev stg2 (hO : Inside m) (t : Fin (cfgM m hO).N) : Memref sig .tc .vmem S1x1x2048x1024 .bf16 := spec0_2.stage ((cfgM m hO).slots t 2)
abbrev whole2 (hO : Inside m) (t : Fin (cfgM m hO).N) : (stg2 m hO t).IsWhole := hstage0_2 (((cfgM m hO).slots t 2).cast nbuf0_2)
abbrev stg3 (hO : Inside m) (t : Fin (cfgM m hO).N) : Memref sig .tc .vmem S1x1x1024x2048 .bf16 := spec0_3.stage ((cfgM m hO).slots t 3)
abbrev whole3 (hO : Inside m) (t : Fin (cfgM m hO).N) : (stg3 m hO t).IsWhole := hstage0_3 (((cfgM m hO).slots t 3).cast nbuf0_3)
abbrev stg4 (hO : Inside m) (t : Fin (cfgM m hO).N) : Memref sig .tc .vmem S256x2048 .f32 := spec0_4.stage ((cfgM m hO).slots t 4)
abbrev whole4 (hO : Inside m) (t : Fin (cfgM m hO).N) : (stg4 m hO t).IsWhole := hstage0_4 (((cfgM m hO).slots t 4).cast nbuf0_4)

/-- The body as the pipeline calls it at a point. -/
abbrev bodyAt (hO : Inside m) (t : Fin (cfgM m hO).N) : Prog (TpuEff nD τ sig (Elt F) Λ₀ .tc) PUnit :=
  cc0_moe_experts (grid0.coords t) tb0 (Memref.isWhole_whole _) tb1 (Memref.isWhole_whole _) tb2 (Memref.isWhole_whole _) tb3
    (Memref.isWhole_whole _) (stg0 m hO t) (whole0 m hO t) (stg1 m hO t) (whole1 m hO t) (stg2 m hO t) (whole2 m hO t) (stg3 m hO t) (whole3 m hO t) (stg4 m hO t) (whole4 m hO t)

/-- What the body is called with at a point, -/
def bodyPre (hO : Inside m) (c : Dev nD) (t : Fin (cfgM m hO).N) : sProp 𝕄 :=
  iprop((dats m hO 0 c).Φ t.castSucc ∗ (dats m hO 0 c).owesAt () t.castSucc
    ∗ (∃ d, owns (c : Thread nD τ) (stg0 m hO t) fullShare ((dats m hO 0 c).before 0 t d))
    ∗ (∃ d, owns (c : Thread nD τ) (stg1 m hO t) fullShare ((dats m hO 0 c).before 1 t d))
    ∗ (∃ d, owns (c : Thread nD τ) (stg2 m hO t) fullShare ((dats m hO 0 c).before 2 t d))
    ∗ (∃ d, owns (c : Thread nD τ) (stg3 m hO t) fullShare ((dats m hO 0 c).before 3 t d))
    ∗ (∃ d, owns (c : Thread nD τ) (stg4 m hO t) fullShare ((dats m hO 0 c).before 4 t d)))

/-- and what it returns. -/
def bodyPost (hO : Inside m) (c : Dev nD) (t : Fin (cfgM m hO).N) : sProp 𝕄 :=
  iprop((dats m hO 0 c).Φ t.succ ∗ (dats m hO 0 c).owesAt () t.succ
    ∗ owns (c : Thread nD τ) (stg0 m hO t) fullShare ((dats m hO 0 c).after 0 t)
    ∗ owns (c : Thread nD τ) (stg1 m hO t) fullShare ((dats m hO 0 c).after 1 t)
    ∗ owns (c : Thread nD τ) (stg2 m hO t) fullShare ((dats m hO 0 c).after 2 t)
    ∗ owns (c : Thread nD τ) (stg3 m hO t) fullShare ((dats m hO 0 c).after 3 t)
    ∗ owns (c : Thread nD τ) (stg4 m hO t) fullShare ((dats m hO 0 c).after 4 t))

/-- The body's triple at a point's staging buffers, whichever way the item is marked. -/
theorem runs_at (hO : Inside m) (hM : Marked m) (c : Dev nD) (t : Fin (cfgM m hO).N) :
    Runs c (grid0.coords t) (stg0 m hO t) (whole0 m hO t) (stg1 m hO t) (whole1 m hO t) (stg2 m hO t) (whole2 m hO t) (stg3 m hO t) (whole3 m hO t) (stg4 m hO t) (whole4 m hO t)
      (iblk m hO c 0 t) (iblk m hO c 1 t) (iblk m hO c 2 t) (iblk m hO c 3 t) (tbl m 0) (tbl m 1) (tbl m 2) (tbl m 3) (left m hO c t) := by
  obtain rfl : c = 0 := Subsingleton.elim _ _
  have e1 : k0_cond1 (word1 (0 : Dev nD) (grid0.coords t) (tbl m 3)) = k0_cond1 (tbl m 3 (item (grid0.coords t))) :=
    congrArg k0_cond1 (word1_eq (0 : Dev nD) (grid0.coords t) (tbl m 3))
  have e2 : k0_cond2 (word2 (0 : Dev nD) (grid0.coords t) (tbl m 3)) = k0_cond2 (tbl m 3 (item (grid0.coords t))) :=
    congrArg k0_cond2 (word2_eq (0 : Dev nD) (grid0.coords t) (tbl m 3))
  rcases hM (grid0.coords t) with ⟨h1, h2⟩ | ⟨h1, h2⟩
  · rw [show left m hO 0 t = k0_pay1 (iblk m hO 0 0 t) (iblk m hO 0 1 t) (iblk m hO 0 2 t) (iblk m hO 0 3 t) from if_pos h1]
    exact run_valid _ _ _ _ _ _ _ _ _ _ _ _ _ _ _ _ _ _ _ _ (e1.trans h1) (fun h => h2 (e2.symm.trans h))
  · rw [show left m hO 0 t = k0_pay2 from if_neg h1]
    exact run_empty _ _ _ _ _ _ _ _ _ _ _ _ _ _ _ _ _ _ _ _ (fun h => h1 (e1.symm.trans h)) (e2.trans h2)

set_option maxHeartbeats 800000 in
/-- The body at any point. -/
theorem sound_body (hO : Inside m) (hM : Marked m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3]
  rw [show (dats m hO 0 c).Φ t.succ = (dats m hO 0 c).Φ t.castSucc from rfl,
    show (dats m hO 0 c).owesAt () t.succ = (dats m hO 0 c).owesAt () t.castSucc from rfl, after0, after1, after2, after3, after_out]
  rw [show (dats m hO 0 c).Φ t.castSucc = iprop(Pipeline.ΦA spec0 c ∗ Pipeline.ΦT pre0 (tbl m) c) from rfl, tables_eq]
  iintro ⟨⟨HΦ, ⟨HT0, HT1, HT2, HT3⟩⟩, Ho, ⟨%d0, H0⟩, ⟨%d1, H1⟩, ⟨%d2, H2⟩, ⟨%d3, H3⟩, ⟨%d4, H4⟩⟩
  iapply (runs_at m hO hM c t Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  isplitl [HT2]; · iexact HT2
  isplitl [HT3]; · iexact HT3
  iintro ⟨H0, H1, H2, H3, H4, HT0, HT1, HT2, HT3⟩
  isplitl [HΦ HT0 HT1 HT2 HT3]
  · isplitl [HΦ]
    · iexact HΦ
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  iexact H4

theorem body_row (hO : Inside m) (t : Fin (cfgM m hO).N) :
    defs₀ (F := F) .tc (cfgM m hO).body ((cfgM m hO).bodyArgs t ((cfgM m hO).slots t)) = bodyAt m hO t := by
  unfold defs₀; rw [Defs.onTc_tc]

/-- The pipeline's body obligation. -/
theorem body_obligation (hO : Inside m) (hM : Marked m) (c : Dev nD) :
    BodyObligation (dats (F := F) m hO 0 c) (defs₀ (F := F)) Variants.none () Set.univ := fun t => by
  rw [bigSep_W0, bigSep_W0, body_row m hO]
  have hi : idle0 (F := F) (tbl m) 4 (((pcfg0 (F := F)).gridAt (tbl m)).coords t) = false := idle_none m hO hM 4 _
  simp only [hi]
  exact triple_restated (sound_body m hO hM c t) rfl .rfl fun _ => .rfl

/-! ## The run -/

set_option backward.isDefEq.respectTransparency.types false in
/-- The whole program runs; at its end the windows' arrays are what the points write back, every other array is as the call
found it, and every semaphore is at zero. -/
theorem run (hO : Inside m) (hM : Marked m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO hM c).loose) (hshare := fun c => (dats m hO 0 c).share_full fun _ => rfl)
    (howed := fun _ _ => rfl) (V := V m) (hmain := main_casts m Variants.none) (hA := A_eq m hO) (hpf := V_tbl m)
    (hΦ := fun _ _ => rfl)

/-- The arguments at a final memory are what they were. -/
abbrev ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

/-- The run, with the result array and the arguments. -/
theorem run_result (hO : Inside m) (hM : Marked m) : θ_run defs (onTc (τ := τ) (main (F := F))) ⟨m, fun _ => 0, ρ⟩
    (fun r => (∀ c : Dev nD, r.2.mem ((c.tc : Thread nD τ).loc main_v3) = (dats m hO 0 c).arrAt 4 (cfgM m hO).N ∧ ArgsKept m r c)
      ∧ r.2.sem = fun _ => 0) :=
  (θ_run defs _ _).mono (fun r h => ⟨fun c => ⟨(h.1 c).1 4,
    ((h.1 c).2 main_arg0 (by decide : main_arg0 ∈ Pipeline.restRefs sig spec0)).trans (V_kept m c main_arg0 (by decide) (by decide) (by decide)),
    ((h.1 c).2 main_arg1 (by decide : main_arg1 ∈ Pipeline.restRefs sig spec0)).trans (V_kept m c main_arg1 (by decide) (by decide) (by decide)),
    ((h.1 c).2 main_arg2 (by decide : main_arg2 ∈ Pipeline.restRefs sig spec0)).trans (V_kept m c main_arg2 (by decide) (by decide) (by decide)),
    ((h.1 c).2 main_arg3 (by decide : main_arg3 ∈ Pipeline.restRefs sig spec0)).trans (V_kept m c main_arg3 (by decide) (by decide) (by decide)),
    ((h.1 c).1 0).trans (((dats m hO 0 c).arrAt_in 0 rfl _).trans ((A_eq m hO c 0).trans (V_kept m c main_arg4 (by decide) (by decide) (by decide)))),
    ((h.1 c).2 main_arg5 (by decide : main_arg5 ∈ Pipeline.restRefs sig spec0)).trans (V_kept m c main_arg5 (by decide) (by decide) (by decide)),
    ((h.1 c).2 main_arg6 (by decide : main_arg6 ∈ Pipeline.restRefs sig spec0)).trans (V_kept m c main_arg6 (by decide) (by decide) (by decide)),
    ((h.1 c).2 main_arg7 (by decide : main_arg7 ∈ Pipeline.restRefs sig spec0)).trans (V_kept m c main_arg7 (by decide) (by decide) (by decide))⟩, h.2⟩) (run m ρ hO hM)

/-- The frame: the call terminates without a fault, its arguments end unchanged, its semaphores are at zero. -/
theorem frame (hO : Inside m) (hM : Marked m) : θ_run defs (onTc (τ := τ) (main (F := F))) ⟨m, fun _ => 0, ρ⟩
    (fun r => (∀ c : Dev nD, ArgsKept m r c) ∧ r.2.sem = fun _ => 0) :=
  (θ_run defs _ _).mono (fun _ h => ⟨fun c => (h.1 c).2, h.2⟩) (run_result m ρ hO hM)

end Cert.Experts

end
-- ==== Proof.ExpertBlock.lean ====
module

public import proofs.«01_k».proof.Proof.Gen.Kernel2Ideal.Skeleton
public import Idealize.ShloMosaic.Lib.Pointwise
public import Idealize.ShloMosaic.Lib.Pipeline.ValueKit
public import Idealize.ShloMosaic.Lib.Tactic.WordOmega
public import Idealize.ShloMosaic.PureOps.Ideal.Laws

/-! One expert on one row, over the extended reals, and what the kernel's body computes of a block of 256 rows. -/

@[expose] public section

set_option maxRecDepth 16384

noncomputable section

namespace Cert.Experts

open Cert.Kernel2Ideal Cert.Kernel2Ideal.Gen Idealize.ShloMosaic Idealize.SL.Sem

/-- `x · sigmoid x`. -/
def silu (x : EReal) : EReal := x * Ideal.div 1 (1 + Ideal.exp (-x))

/-- An expert's output for one row at lane `d`: the gated product of the row's two projections, projected down. -/
def ffn (row : Fin 2048 → EReal) (wg wu : Fin 2048 → Fin 1024 → EReal) (wd : Fin 1024 → Fin 2048 → EReal) (d : Fin 2048) : EReal :=
  ∑ f, silu (∑ k, row k * wg k f) * (∑ k, row k * wu k f) * wd f d

/-- What the body computes of a valid item: each row's expert. -/
theorem pay1_apply (x0 : Vec Ideal S256x2048 .f32) (x1 x2 : Vec Ideal S1x1x2048x1024 .bf16) (x3 : Vec Ideal S1x1x1024x2048 .bf16)
    (r : Fin 256) (d : Fin 2048) : k0_pay1 (F := Ideal) x0 x1 x2 x3 (ix2 r d)
      = ffn (fun k => x0 (ix2 r k)) (fun k f => x1 (ix4 0 0 k f)) (fun k f => x2 (ix4 0 0 k f)) (fun f d => x3 (ix4 0 0 f d)) d := by
  unfold ffn silu
  pointwise [k0_pay1]
  simp only [zero_sub]

/-- What it leaves for any other item. -/
theorem pay2_apply (r : Fin 256) (d : Fin 2048) : k0_pay2 (F := Ideal) (ix2 r d) = 0 := by
  pointwise [k0_pay2]

end Cert.Experts

end
-- ==== Proof.ExpertRef.lean ====
module

public import proofs.«01_k».proof.Proof.Gen.Reference2Ideal.Read
public import proofs.«01_k».proof.Proof.ExpertBlock

/-! The reference of the experts, read at an index: row `t` and slot `s` get the sum, over the experts that some valid item
of the list pairs with the row's tile and the slot, of each expert's output for the row. -/

@[expose] public section

set_option maxRecDepth 16384

noncomputable section

namespace Cert.Experts

open Cert.Reference2Ideal Cert.Reference2Ideal.Gen Cert.Reference2Ideal.Read Idealize.ShloMosaic Idealize.SL.Sem

theorem and_one (a b : BitVec 1) : IntOp.andi a b = 1#1 ↔ a = 1#1 ∧ b = 1#1 := by revert a b; decide
theorem or_one (a b : BitVec 1) : IntOp.ori a b = 1#1 ↔ a = 1#1 ∨ b = 1#1 := by revert a b; decide
instance or_comm' : Std.Commutative (IntOp.ori (w := 1)) := ⟨by decide⟩
instance or_assoc' : Std.Associative (IntOp.ori (w := 1)) := ⟨by decide⟩

theorem fold_or {ι : Type} (S : Finset ι) (f : ι → BitVec 1) : S.fold IntOp.ori 0#1 f = 1#1 ↔ ∃ k ∈ S, f k = 1#1 := by
  classical
  induction S using Finset.induction_on with
  | empty => simp
  | insert a S ha ih => rw [Finset.fold_insert ha, or_one, ih]; simp

/-- A host's `any` over one axis, at an index. -/
theorem any_reduce {s t u : Shape} {a : Fin s.rank} (S : s.Idx → BitVec 1) (init : u.Idx → BitVec 1)
    (h' : s.ReducesTo [a] t) (h : s.Reduces [a] t) (hu : 0 < u.numel) (hi : init (Shape.Idx.first hu) = 0#1) (j : t.Idx) {n : ℕ}
    (hn : s.size a = n) (f : Fin n → s.Idx) (hf : ∀ k, h.lift j (Fin.cast hn.symm k) = f k) :
    Host.reduce IntOp.ori S init h' hu j = 1#1 ↔ ∃ k, S (f k) = 1#1 := by
  subst hn
  have e := Host.reduce_eq_fold_single IntOp.ori S init h' h hu j
  obtain rfl : (fun k => h.lift j k) = f := funext hf
  rw [e, hi]
  refine (fold_or _ _).trans ?_
  simp

theorem cmpi_eq_one {n : ℕ} (a b : BitVec n) : IntOp.cmpi CmpIPredicate.eq a b = 1#1 ↔ a = b := by
  show BitVec.ofBool (a == b) = 1#1 ↔ a = b
  by_cases h : a = b
  · simp [h]
  · have hb : (a == b) = false := by simpa using h
    rw [hb]
    exact ⟨fun hx => absurd hx (by decide), fun hx => absurd hx h⟩

variable (x0 x1 x2 x3 : IVec S336 32)

/-- Some valid item pairs tile `i`, slot `s` and expert `e`. -/
def Hit (i s e : ℕ) : Prop := ∃ n : Fin 336, x0 (ix1 n) = BitVec.ofNat 32 i ∧ x2 (ix1 n) = BitVec.ofNat 32 s
  ∧ x1 (ix1 n) = BitVec.ofNat 32 e ∧ x3 (ix1 n) = 1#32

theorem hit_apply (i : Fin 168) (s : Fin 2) (e : Fin 16) :
    val_main_v29 (F := Ideal) x0 x1 x2 x3 (ix3 i s e) = 1#1 ↔ Hit x0 x1 x2 x3 i.val s.val e.val := by
  unfold val_main_v29
  have hR : S336x168x2x16.Reduces [0] S168x2x16 := by decide
  refine (any_reduce _ _ reducesTo_S336x168x2x16_S168x2x16_d0 hR h_S_ rfl (ix3 i s e) rfl (fun k : Fin 336 => ix4 k i s e)
    fun k => funext fun a => Fin.ext (by match a with | ⟨0, _⟩ => rfl | ⟨1, _⟩ => rfl | ⟨2, _⟩ => rfl | ⟨3, _⟩ => rfl)).trans ?_
  refine exists_congr fun n => ?_
  rw [val_main_v28_apply, val_main_v23_apply, val_main_v21_apply, val_main_v14_apply, val_main_v12_apply, val_main_v13_apply,
    val_main_v5_apply, val_main_v11_apply, val_main_v22_apply, val_main_v20_apply, val_main_v27_apply, val_main_v26_apply,
    val_main_v3_apply, val_main_v0_apply, val_main_v4_apply, val_main_v2_apply, val_main_v1_apply,
    val_main_v9_apply, val_main_v6_apply, val_main_v10_apply, val_main_v8_apply, val_main_v7_apply,
    val_main_v18_apply, val_main_v15_apply, val_main_v19_apply, val_main_v17_apply, val_main_v16_apply,
    val_main_v24_apply, val_main_v25_apply, val_main_c_apply]
  simp only [and_one, cmpi_eq_one]
  have e0 : idx_main_v0 (idx_main_v3 (idx_main_v12 (idx_main_v21 (ix4 n i s e)))) = ix1 n := funext fun a => by fin_cases a; rfl
  have e2 : idx_main_v6 (idx_main_v9 (idx_main_v13 (idx_main_v21 (ix4 n i s e)))) = ix1 n := funext fun a => by fin_cases a; rfl
  have e1 : idx_main_v15 (idx_main_v18 (idx_main_v22 (ix4 n i s e))) = ix1 n := funext fun a => by fin_cases a; rfl
  have e3 : idx_main_v24 (idx_main_v27 (ix4 n i s e)) = ix1 n := funext fun a => by fin_cases a; rfl
  rw [e0, e1, e2, e3, and_assoc, and_assoc]
  exact Iff.rfl

variable (x4 : FVec Ideal S43008x2048 .f32) (x5 x6 : FVec Ideal S4x16x2048x1024 .f32) (x7 : FVec Ideal S4x16x1024x2048 .f32)

/-- Expert `e`'s output for row `t`. -/
theorem y_apply (e : Fin 16) (t : Fin 43008) (d : Fin 2048) : val_main_v46 (F := Ideal) x4 x5 x6 x7 (ix3 e t d)
    = ffn (fun k => x4 (ix2 t k)) (fun k f => x5 (ix4 0 e k f)) (fun k f => x6 (ix4 0 e k f)) (fun f d => x7 (ix4 0 e f d)) d := by
  have h5 : ∀ k : Fin 2048, ∀ f : Fin 1024, val_main_v35 (F := Ideal) x5 (ix3 e k f) = x5 (ix4 0 e k f) := by
    intro k f; pointwise [val_main_v35, val_main_v34]
  have h6 : ∀ k : Fin 2048, ∀ f : Fin 1024, val_main_v40 (F := Ideal) x6 (ix3 e k f) = x6 (ix4 0 e k f) := by
    intro k f; pointwise [val_main_v40, val_main_v39]
  have h7 : ∀ f : Fin 1024, ∀ d : Fin 2048, val_main_v45 (F := Ideal) x7 (ix3 e f d) = x7 (ix4 0 e f d) := by
    intro k f; pointwise [val_main_v45, val_main_v44]
  have hg : ∀ f : Fin 1024, val_main_v37 (F := Ideal) x4 x5 (ix3 e t f) = ∑ k, x4 (ix2 t k) * x5 (ix4 0 e k f) := by
    intro f
    rw [val_main_v37_apply, val_main_v36_apply]
    refine Finset.sum_congr rfl fun k _ => ?_
    rw [← h5, mul_comm]
    refine congrArg₂ (fun a b : EReal => a * b) (congrArg x4 (funext fun a => Fin.ext ?_)) (congrArg _ (funext fun a => Fin.ext ?_))
    · match a with | ⟨0, _⟩ => rfl | ⟨1, _⟩ => rfl
    · match a with | ⟨0, _⟩ => rfl | ⟨1, _⟩ => rfl | ⟨2, _⟩ => rfl
  have hu : ∀ f : Fin 1024, val_main_v42 (F := Ideal) x4 x6 (ix3 e t f) = ∑ k, x4 (ix2 t k) * x6 (ix4 0 e k f) := by
    intro f
    rw [val_main_v42_apply, val_main_v41_apply]
    refine Finset.sum_congr rfl fun k _ => ?_
    rw [← h6, mul_comm]
    refine congrArg₂ (fun a b : EReal => a * b) (congrArg x4 (funext fun a => Fin.ext ?_)) (congrArg _ (funext fun a => Fin.ext ?_))
    · match a with | ⟨0, _⟩ => rfl | ⟨1, _⟩ => rfl
    · match a with | ⟨0, _⟩ => rfl | ⟨1, _⟩ => rfl | ⟨2, _⟩ => rfl
  have ha : ∀ f : Fin 1024, val_main_v43 (F := Ideal) x4 x5 x6 (ix3 e t f)
      = silu (∑ k, x4 (ix2 t k) * x5 (ix4 0 e k f)) * ∑ k, x4 (ix2 t k) * x6 (ix4 0 e k f) := by
    intro f
    rw [← hg, ← hu]
    unfold silu val_main_v43 val_main_v38 val_main_call1_v5 val_main_call1_v4 val_main_call1_v3 val_main_call1_v2 val_main_call1_v1 val_main_call1_v0
    generalize val_main_v37 (F := Ideal) x4 x5 = G
    generalize val_main_v42 (F := Ideal) x4 x6 = U
    pointwise [val_main_call1_cst, val_main_call1_cst_0]
  unfold ffn
  rw [val_main_v46_apply]
  refine Finset.sum_congr rfl fun f _ => ?_
  show _ = _ * x7 (ix4 0 e f d)
  rw [← ha, ← h7]
  refine congrArg₂ (fun a b : EReal => a * b) (congrArg _ (funext fun a => Fin.ext ?_)) (congrArg _ (funext fun a => Fin.ext ?_))
  · match a with | ⟨0, _⟩ => rfl | ⟨1, _⟩ => rfl | ⟨2, _⟩ => rfl
  · match a with | ⟨0, _⟩ => rfl | ⟨1, _⟩ => rfl | ⟨2, _⟩ => rfl

open Classical in
/-- The reference at row `256 i + r` and slot `s`. -/
theorem ref_apply (i : Fin 168) (r : Fin 256) (s : Fin 2) (d : Fin 2048) :
    val_main_v48 (F := Ideal) x0 x1 x2 x3 x4 x5 x6 x7 (ix2 ⟨i.val * 256 + r.val, by omega⟩ ⟨s.val * 2048 + d.val, by omega⟩)
      = ∑ e : Fin 16, (if Hit x0 x1 x2 x3 i.val s.val e.val then (1 : EReal) else 0)
          * ffn (fun k => x4 (ix2 ⟨i.val * 256 + r.val, by omega⟩ k)) (fun k f => x5 (ix4 0 e k f)) (fun k f => x6 (ix4 0 e k f))
              (fun f d => x7 (ix4 0 e f d)) d := by
  have hc : ∀ e : Fin 16, val_main_v33 (F := Ideal) x0 x1 x2 x3 (ix3 ⟨i.val * 256 + r.val, by omega⟩ s e)
      = if Hit x0 x1 x2 x3 i.val s.val e.val then (1 : EReal) else 0 := by
    intro e
    have h0 : val_main_v33 (F := Ideal) x0 x1 x2 x3 (ix3 ⟨i.val * 256 + r.val, by omega⟩ s e)
        = val_main_v30 (F := Ideal) x0 x1 x2 x3 (ix3 i s e) := by
      rw [val_main_v33_apply, val_main_v32_apply, val_main_v31_apply]
      refine congrArg _ (funext fun a => Fin.ext ?_)
      match a with
      | ⟨0, _⟩ => show (((i.val * 256 + r.val) * 2 + s.val) * 16 + e.val) / 8192 = i.val; omega
      | ⟨1, _⟩ => show (((i.val * 256 + r.val) * 2 + s.val) * 16 + e.val) / 16 % 2 = s.val; omega
      | ⟨2, _⟩ => show (((i.val * 256 + r.val) * 2 + s.val) * 16 + e.val) % 16 = e.val; omega
    rw [h0, val_main_v30_apply, val_main_call0_v0_apply, val_main_call0_v1_apply, val_main_cst_apply, val_main_cst_1_apply]
    have hh := hit_apply x0 x1 x2 x3 i s e
    by_cases h : Hit x0 x1 x2 x3 i.val s.val e.val
    · rw [if_pos h, hh.mpr h]; exact Ideal.ofBits_one_f32
    · rw [if_neg h]
      have : val_main_v29 (F := Ideal) x0 x1 x2 x3 (ix3 i s e) = 0#1 := by
        have hn := mt hh.mp h
        revert hn; generalize val_main_v29 (F := Ideal) x0 x1 x2 x3 (ix3 i s e) = b; revert b; decide
      rw [this]; exact Ideal.ofBits_zero_f32
  have hi : idx_main_v48 (ix2 ⟨i.val * 256 + r.val, by omega⟩ ⟨s.val * 2048 + d.val, by omega⟩) = ix3 ⟨i.val * 256 + r.val, by omega⟩ s d := by
    refine funext fun a => Fin.ext ?_
    match a with
    | ⟨0, _⟩ => show ((i.val * 256 + r.val) * 4096 + (s.val * 2048 + d.val)) / 4096 = i.val * 256 + r.val; omega
    | ⟨1, _⟩ => show ((i.val * 256 + r.val) * 4096 + (s.val * 2048 + d.val)) / 2048 % 2 = s.val; omega
    | ⟨2, _⟩ => show ((i.val * 256 + r.val) * 4096 + (s.val * 2048 + d.val)) % 2048 = d.val; omega
  rw [val_main_v48_apply, hi, val_main_v47_apply]
  refine Finset.sum_congr rfl fun e _ => ?_
  rw [← hc, ← y_apply]
  refine congrArg₂ (fun a b : EReal => a * b) (congrArg _ (funext fun a => Fin.ext ?_)) (congrArg _ (funext fun a => Fin.ext ?_))
  · match a with | ⟨0, _⟩ => rfl | ⟨1, _⟩ => rfl | ⟨2, _⟩ => rfl
  · match a with | ⟨0, _⟩ => rfl | ⟨1, _⟩ => rfl | ⟨2, _⟩ => rfl

end Cert.Experts

end
-- ==== Proof.ExpertList.lean ====
module

public import proofs.«01_k».proof.Proof.ExpertRun
public import proofs.«01_k».proof.Proof.Gen.Pre_work_list
public import proofs.«01_k».proof.Proof.Gen.On_listed
public import proofs.«01_k».proof.Proof.ExpertRef

/-! The list of work that the experts' call is handed: what its precondition says of the four tables, that every item's blocks
lie inside the arrays, and what the mask of the claim says of an index of the result. -/

@[expose] public section

set_option maxRecDepth 16384

noncomputable section

namespace Cert.Experts

open Cert.Kernel2Ideal Cert.Kernel2Ideal.Gen
open Idealize.ShloMosaic Idealize.ShloMosaic.TcCoe Idealize.SL.Sem
open Idealize.ShloMosaic.WordCmp

variable {F : FTy → Type} [FloatOps F]

/-- A list of work: tiles, experts and slots in range, each item valid or not, and a valid item alone at its place. -/
structure Good (x0 x1 x2 x3 : IVec S336 32) : Prop where
  tile : ∀ n : Fin 336, (x0 (ix1 n)).toNat < 168
  expert : ∀ n : Fin 336, (x1 (ix1 n)).toNat < 16
  slot : ∀ n : Fin 336, (x2 (ix1 n)).toNat < 2
  valid : ∀ n : Fin 336, x3 (ix1 n) = 0#32 ∨ x3 (ix1 n) = 1#32
  alone : ∀ n n' : Fin 336, n = n' ∨ x3 (ix1 n) = 0#32 ∨ x0 (ix1 n) ≠ x0 (ix1 n') ∨ x2 (ix1 n) ≠ x2 (ix1 n')

theorem cmpi_ne_one {n : ℕ} (a b : BitVec n) : IntOp.cmpi .ne a b = 1#1 ↔ a ≠ b := by
  rw [cmpi_ne_eq]
  by_cases h : a = b <;> simp [h]

theorem below_of_cmp (x : BitVec 32) (k : ℕ) (hk : k < 2 ^ 31) (h0 : IntOp.cmpi .sge x 0#32 = 1#1)
    (h1 : IntOp.cmpi .slt x (BitVec.ofNat 32 k) = 1#1) : x.toNat < k := by
  rw [cmpi_sge_zero] at h0
  have hx : x.toNat < 2 ^ (32 - 1) := by
    by_contra h
    rw [decide_eq_false h] at h0
    exact absurd h0 (by decide)
  have hb : (BitVec.ofNat 32 k).toNat = k := by rw [BitVec.toNat_ofNat]; omega
  rw [cmpi_slt_of_lt hx (by rw [hb]; omega), hb] at h1
  by_contra h
  rw [decide_eq_false h] at h1
  exact absurd h1 (by decide)

/-- What the precondition says. -/
theorem good_of_pre (x0 x1 x2 x3 : IVec S336 32) (x4 : FVec F S43008x2048 .f32) (x5 x6 : FVec F S4x16x2048x1024 .f32)
    (x7 : FVec F S4x16x1024x2048 .f32)
    (h1 : (Cert.Pre_work_list.fn (F := F) x0 x1 x2 x3 x4 x5 x6 x7).1 = fun _ => 1#1)
    (h2 : (Cert.Pre_work_list.fn (F := F) x0 x1 x2 x3 x4 x5 x6 x7).2 = fun _ => 1#1) : Good x0 x1 x2 x3 := by
  have p1 : ∀ n : Fin 336, _ := fun n => congrFun h1 (ix1 n)
  have p2 : ∀ n n' : Fin 336, _ := fun n n' => congrFun h2 (ix2 n n')
  simp only [Cert.Pre_work_list.fn, Cert.Pre_work_list.fn_part1, Cert.Pre_work_list.fn_part2, constantI, broadcastInDim, cmpi, andi,
    and_one] at p1
  simp only [Cert.Pre_work_list.fn, Cert.Pre_work_list.fn_part1, Cert.Pre_work_list.fn_part2, constantI, broadcastInDim, cmpi, ori,
    iotaInDim, or_one, cmpi_eq_one, cmpi_ne_one] at p2
  refine ⟨fun n => ?_, fun n => ?_, fun n => ?_, fun n => ?_, fun n n' => ?_⟩
  · exact below_of_cmp _ 168 (by omega) (p1 n).1.1.1.1.1.1.1 (p1 n).1.1.1.1.1.1.2
  · exact below_of_cmp _ 16 (by omega) (p1 n).1.1.1.1.1.2 (p1 n).1.1.1.1.2
  · exact below_of_cmp _ 2 (by omega) (p1 n).1.1.1.2 (p1 n).1.1.2
  · have := below_of_cmp _ 2 (by omega) (p1 n).1.2 (p1 n).2
    rcases (show (x3 (ix1 n)).toNat = 0 ∨ (x3 (ix1 n)).toNat = 1 by omega) with h | h
    · exact .inl (BitVec.eq_of_toNat_eq h)
    · exact .inr (BitVec.eq_of_toNat_eq h)
  · have e1 : ∀ x : IVec S336 32, ∀ k, (k = ix1 n) → x k = x (ix1 n) := fun x k h => h ▸ rfl
    rcases p2 n n' with ((h | h) | h) | h
    · left
      have h' : BitVec.ofNat 32 n.val = BitVec.ofNat 32 n'.val := h
      have := congrArg BitVec.toNat h'
      rw [BitVec.toNat_ofNat, BitVec.toNat_ofNat] at this
      exact Fin.ext (by omega)
    · right; left; exact (congrArg x3 (funext fun a => by fin_cases a; rfl)).trans h
    · right; right; left
      refine fun he => h ?_
      exact (congrArg x0 (funext fun a => by fin_cases a; rfl)).trans (he.trans (congrArg x0 (funext fun a => by fin_cases a; rfl)))
    · right; right; right
      refine fun he => h ?_
      exact (congrArg x2 (funext fun a => by fin_cases a; rfl)).trans (he.trans (congrArg x2 (funext fun a => by fin_cases a; rfl)))

/-! ## The blocks of an item -/

/-- The item of a grid point, as a number. -/
abbrev num (i : grid0.Coords) : Fin 336 := ⟨(i 0).val, (i 0).isLt⟩

theorem item_eq (i : grid0.Coords) : item i = ix1 (num i) := funext fun a => by fin_cases a; rfl

section blocks
variable (pf : pre0.Contents (Elt F)) (i : grid0.Coords)

/-- The four tables of a list, as arrays of words. -/
abbrev T0 : IVec S336 32 := pf 0
abbrev T1 : IVec S336 32 := pf 1
abbrev T2 : IVec S336 32 := pf 2
abbrev T3 : IVec S336 32 := pf 3

theorem block0 : cc0_transform_0 k0_off1_inb numel1_S1 pf i = ![(T0 pf (ix1 (num i))).toNat, 0] :=
  congrArg (fun v : BitVec 32 => ![v.toNat, 0]) (congrArg (T0 pf) ((emb_item i _ (off1_eq i) _ _).trans (item_eq i)))
theorem block1 : cc0_transform_1 k0_off1_inb numel1_S1 pf i = ![0, (T1 pf (ix1 (num i))).toNat, 0, 0] :=
  congrArg (fun v : BitVec 32 => ![0, v.toNat, 0, 0]) (congrArg (T1 pf) ((emb_item i _ (off1_eq i) _ _).trans (item_eq i)))
theorem block2 : cc0_transform_2 k0_off1_inb numel1_S1 pf i = ![0, (T1 pf (ix1 (num i))).toNat, 0, 0] := block1 pf i
theorem block3 : cc0_transform_3 k0_off1_inb numel1_S1 pf i = ![0, (T1 pf (ix1 (num i))).toNat, 0, 0] := block1 pf i
theorem block4 : cc0_transform_4 k0_off1_inb numel1_S1 pf i = ![(T0 pf (ix1 (num i))).toNat, (T2 pf (ix1 (num i))).toNat] :=
  congrArg₂ (fun v w : BitVec 32 => ![v.toNat, w.toNat]) (congrArg (T0 pf) ((emb_item i _ (off1_eq i) _ _).trans (item_eq i)))
    (congrArg (T2 pf) ((emb_item i _ (off1_eq i) _ _).trans (item_eq i)))
end blocks

/-- The blocks of a good list's items lie inside the arrays. -/
theorem inside_of_good (pf : pre0.Contents (Elt F)) (h : Good (T0 pf) (T1 pf) (T2 pf) (T3 pf)) : ok0 (F := F) pf := by
  unfold ok0
  refine ⟨fun i => ⟨fun a => ?_, .inl rfl⟩, fun i => ⟨fun a => ?_, .inr (.inr ⟨show 2 ≤ 4 by decide, rfl, Nat.zero_mul _, rfl⟩)⟩,
    fun i => ⟨fun a => ?_, .inr (.inr ⟨show 2 ≤ 4 by decide, rfl, Nat.zero_mul _, rfl⟩)⟩,
    fun i => ⟨fun a => ?_, .inr (.inr ⟨show 2 ≤ 4 by decide, rfl, Nat.zero_mul _, rfl⟩)⟩, fun i => ⟨fun a => ?_, .inl rfl⟩⟩
  all_goals
    have ht := h.tile (num i)
    have he := h.expert (num i)
    have hs := h.slot (num i)
  · rw [block0]
    fin_cases a
    · show ((T0 pf (ix1 (num i))).toNat + 1) * 256 ≤ 43008; omega
    · show (0 + 1) * 2048 ≤ 2048; omega
  · rw [block1]
    fin_cases a
    · show (0 + 1) * 1 ≤ 4; omega
    · show ((T1 pf (ix1 (num i))).toNat + 1) * 1 ≤ 16; omega
    · show (0 + 1) * 2048 ≤ 2048; omega
    · show (0 + 1) * 1024 ≤ 1024; omega
  · rw [block2]
    fin_cases a
    · show (0 + 1) * 1 ≤ 4; omega
    · show ((T1 pf (ix1 (num i))).toNat + 1) * 1 ≤ 16; omega
    · show (0 + 1) * 2048 ≤ 2048; omega
    · show (0 + 1) * 1024 ≤ 1024; omega
  · rw [block3]
    fin_cases a
    · show (0 + 1) * 1 ≤ 4; omega
    · show ((T1 pf (ix1 (num i))).toNat + 1) * 1 ≤ 16; omega
    · show (0 + 1) * 1024 ≤ 1024; omega
    · show (0 + 1) * 2048 ≤ 2048; omega
  · rw [block4]
    fin_cases a
    · show ((T0 pf (ix1 (num i))).toNat + 1) * 256 ≤ 43008; omega
    · show ((T2 pf (ix1 (num i))).toNat + 1) * 2048 ≤ 4096; omega

variable (m : (ℓ : Loc nD τ sig) → Buf (Elt F) ℓ)

/-- The tables of the list are the call's first four arguments. -/
theorem tbl0 (c : Dev nD) : T0 (tbl m) = m ((c : Thread nD τ).loc main_arg0) := by
  obtain rfl : c = 0 := Subsingleton.elim _ _
  exact V_kept m 0 main_arg0 (by decide) (by decide) (by decide)
theorem tbl1 (c : Dev nD) : T1 (tbl m) = m ((c : Thread nD τ).loc main_arg1) := by
  obtain rfl : c = 0 := Subsingleton.elim _ _
  exact V_kept m 0 main_arg1 (by decide) (by decide) (by decide)
theorem tbl2 (c : Dev nD) : T2 (tbl m) = m ((c : Thread nD τ).loc main_arg2) := by
  obtain rfl : c = 0 := Subsingleton.elim _ _
  exact V_kept m 0 main_arg2 (by decide) (by decide) (by decide)
theorem tbl3 (c : Dev nD) : T3 (tbl m) = m ((c : Thread nD τ).loc main_arg3) := by
  obtain rfl : c = 0 := Subsingleton.elim _ _
  exact V_kept m 0 main_arg3 (by decide) (by decide) (by decide)

/-- The tables of a launch form a good list. -/
abbrev GoodAt : Prop := Good (T0 (tbl m)) (T1 (tbl m)) (T2 (tbl m)) (T3 (tbl m))

theorem GoodAt.inside {m : (ℓ : Loc nD τ sig) → Buf (Elt F) ℓ} (h : GoodAt m) : Inside m := inside_of_good _ h

theorem cond1_one : k0_cond1 (1#32) = 1#1 := by decide
theorem cond1_zero : ¬k0_cond1 (0#32) = 1#1 := by decide
theorem cond2_one : ¬k0_cond2 (1#32) = 1#1 := by decide
theorem cond2_zero : k0_cond2 (0#32) = 1#1 := by decide

theorem GoodAt.marked {m : (ℓ : Loc nD τ sig) → Buf (Elt F) ℓ} (h : GoodAt m) : Marked m := by
  intro i
  have hv : T3 (tbl m) (item i) = 0#32 ∨ T3 (tbl m) (item i) = 1#32 := by rw [item_eq]; exact h.valid (num i)
  have key : ∀ v : BitVec 32, v = 0#32 ∨ v = 1#32 →
      (k0_cond1 v = 1#1 ∧ ¬k0_cond2 v = 1#1) ∨ (¬k0_cond1 v = 1#1 ∧ k0_cond2 v = 1#1) := by
    rintro v (rfl | rfl)
    · exact .inr ⟨cond1_zero, cond2_zero⟩
    · exact .inl ⟨cond1_one, cond2_one⟩
  exact key _ hv

/-- The precondition, at a launch, gives a good list. -/
theorem goodAt_of_pre (c : Dev nD) (x4 : FVec F S43008x2048 .f32) (x5 x6 : FVec F S4x16x2048x1024 .f32) (x7 : FVec F S4x16x1024x2048 .f32)
    (h1 : (Cert.Pre_work_list.fn (F := F) (m ((c : Thread nD τ).loc main_arg0)) (m ((c : Thread nD τ).loc main_arg1))
      (m ((c : Thread nD τ).loc main_arg2)) (m ((c : Thread nD τ).loc main_arg3)) x4 x5 x6 x7).1 = fun _ => 1#1)
    (h2 : (Cert.Pre_work_list.fn (F := F) (m ((c : Thread nD τ).loc main_arg0)) (m ((c : Thread nD τ).loc main_arg1))
      (m ((c : Thread nD τ).loc main_arg2)) (m ((c : Thread nD τ).loc main_arg3)) x4 x5 x6 x7).2 = fun _ => 1#1) : GoodAt m := by
  have h := good_of_pre _ _ _ _ x4 x5 x6 x7 h1 h2
  unfold GoodAt
  rw [tbl0 m c, tbl1 m c, tbl2 m c, tbl3 m c]
  exact h

/-! ## The mask -/

/-- An index of the mask's is one of an item's: its tile and its slot are named. -/
theorem named_of_listed (x0 x1 x2 x3 : IVec S336 32) (x4 : FVec F S43008x2048 .f32) (x5 x6 : FVec F S4x16x2048x1024 .f32)
    (x7 : FVec F S4x16x1024x2048 .f32) (i : Fin 168) (r : Fin 256) (s : Fin 2) (d : Fin 2048)
    (h : Cert.On_listed.fn (F := F) x0 x1 x2 x3 x4 x5 x6 x7 (ix2 ⟨i.val * 256 + r.val, by omega⟩ ⟨s.val * 2048 + d.val, by omega⟩) = 1#1) :
    ∃ n : Fin 336, x0 (ix1 n) = BitVec.ofNat 32 i.val ∧ x2 (ix1 n) = BitVec.ofNat 32 s.val := by
  unfold Cert.On_listed.fn at h
  have hR : Cert.On_listed.S336x168x2.Reduces [0] Cert.On_listed.S168x2 := by decide
  rw [shapeCast_apply _ _ _ (ix4 i r s d) (by
    rw [Shape.rowMajor_val_four, Shape.rowMajor_val_two]
    show ((i.val * 256 + r.val) * 2 + s.val) * 2048 + d.val = (i.val * 256 + r.val) * 4096 + (s.val * 2048 + d.val)
    omega)] at h
  have h' : Host.reduce IntOp.ori _ _ _ _ (ix2 i s) = 1#1 := (congrArg _ (funext fun a => by fin_cases a <;> rfl)).trans h
  obtain ⟨n, hn⟩ := (any_reduce _ _ _ hR _ rfl (ix2 i s) rfl (fun k : Fin 336 => ix3 k i s)
    fun k => funext fun a => Fin.ext (by match a with | ⟨0, _⟩ => rfl | ⟨1, _⟩ => rfl | ⟨2, _⟩ => rfl)).mp h'
  simp only [andi, cmpi, broadcastInDim, iotaInDim, and_one, cmpi_eq_one] at hn
  exact ⟨n, (congrArg x0 (funext fun a => by fin_cases a; rfl)).trans hn.1, (congrArg x2 (funext fun a => by fin_cases a; rfl)).trans hn.2⟩

end Cert.Experts
-- ==== Proof.ExpertValue.lean ====
module

public import proofs.«01_k».proof.Proof.ExpertList
public import proofs.«01_k».proof.Proof.ExpertBlock
public import Idealize.ShloMosaic.Lib.Pipeline.Value

/-! What the experts' call leaves at the places of a good list: the reference's value. Each item writes back the block of its
place; a valid item's is its expert's output, the other items' is zero; the last item of a place writes it last. -/

@[expose] public section

set_option maxRecDepth 16384

noncomputable section

namespace Cert.Experts

open Cert.Kernel2Ideal Cert.Kernel2Ideal.Gen
open Idealize.ShloMosaic Idealize.ShloMosaic.TcCoe Idealize.SL.Sem

/-- Over the extended reals a cast to a narrower float is the identity. -/
theorem cast_id {S : Shape} (x : FVec Ideal S .f32) : (truncf (F := Ideal) .bf16 x bitsLt_bf16_f32 : S.Idx → EReal) = x := rfl

theorem ffn_congr {row row' : Fin 2048 → EReal} {wg wg' wu wu' : Fin 2048 → Fin 1024 → EReal} {wd wd' : Fin 1024 → Fin 2048 → EReal}
    (h : ∀ k, row k = row' k) (hg : ∀ k f, wg k f = wg' k f) (hu : ∀ k f, wu k f = wu' k f) (hd : ∀ f d, wd f d = wd' f d)
    (d : Fin 2048) : ffn row wg wu wd d = ffn row' wg' wu' wd' d := by
  rw [funext h, funext fun k => funext (hg k), funext fun k => funext (hu k), funext fun k => funext (hd k)]

variable (m : (ℓ : Loc nD τ sig) → Buf (Elt Ideal) ℓ)

/-! ## The arrays that the call reads -/

theorem V_w0 (c : Dev nD) : V m c main_v0 = (m ((c : Thread nD τ).loc main_arg5) : S4x16x2048x1024.Idx → EReal) := by
  show StableHlo.after hostOps0 (fun b => m (c, b)) (Proc.devRef .tc main_v0) = _
  simp only [hostOps0, StableHlo.after_cons, StableHlo.after_nil]
  refine (StableHlo.unary_result_ne main_arg7 main_v2 _ _ _ _ (show main_v0 ≠ main_v2 by decide)).trans ((StableHlo.unary_result_ne main_arg6 main_v1 _ _ _ _ (show main_v0 ≠ main_v1 by decide)).trans ?_)
  exact StableHlo.unary_result main_arg5 main_v0 _ _ _ _
theorem V_w1 (c : Dev nD) : V m c main_v1 = (m ((c : Thread nD τ).loc main_arg6) : S4x16x2048x1024.Idx → EReal) := by
  show StableHlo.after hostOps0 (fun b => m (c, b)) (Proc.devRef .tc main_v1) = _
  simp only [hostOps0, StableHlo.after_cons, StableHlo.after_nil]
  refine (StableHlo.unary_result_ne main_arg7 main_v2 _ _ _ _ (show main_v1 ≠ main_v2 by decide)).trans ((StableHlo.unary_result main_arg6 main_v1 _ _ _ _).trans ?_)
  rw [StableHlo.unary_result_ne main_arg5 main_v0 _ _ _ _ (show main_arg6 ≠ main_v0 by decide)]
  exact cast_id _
theorem V_w2 (c : Dev nD) : V m c main_v2 = (m ((c : Thread nD τ).loc main_arg7) : S4x16x1024x2048.Idx → EReal) := by
  show StableHlo.after hostOps0 (fun b => m (c, b)) (Proc.devRef .tc main_v2) = _
  simp only [hostOps0, StableHlo.after_cons, StableHlo.after_nil]
  refine (StableHlo.unary_result main_arg7 main_v2 _ _ _ _).trans ?_
  rw [StableHlo.unary_result_ne main_arg6 main_v1 _ _ _ _ (show main_arg7 ≠ main_v1 by decide),
    StableHlo.unary_result_ne main_arg5 main_v0 _ _ _ _ (show main_arg7 ≠ main_v0 by decide)]
  exact cast_id _

variable {m} (hG : GoodAt m) (c : Dev nD) (t : Fin (cfgM m hG.inside).N)

/-- A point's item, its tile, its expert and its slot. -/
abbrev no : Fin 336 := num (grid0.coords t)
abbrev tileOf (m : (ℓ : Loc nD τ sig) → Buf (Elt Ideal) ℓ) (n : Fin 336) : ℕ := (T0 (tbl m) (ix1 n)).toNat
abbrev expertOf (m : (ℓ : Loc nD τ sig) → Buf (Elt Ideal) ℓ) (n : Fin 336) : ℕ := (T1 (tbl m) (ix1 n)).toNat
abbrev slotOf (m : (ℓ : Loc nD τ sig) → Buf (Elt Ideal) ℓ) (n : Fin 336) : ℕ := (T2 (tbl m) (ix1 n)).toNat

theorem emb0 (y : S256x2048.Idx) (a : Fin 2) : ((((cfgM m hG.inside).win 0).blk t).view.emb y a).val
    = cc0_transform_0 k0_off1_inb numel1_S1 (tbl m) (grid0.coords t) a * S256x2048.size a + 1 * (y a).val := rfl
theorem emb1 (y : S1x1x2048x1024.Idx) (a : Fin 4) : ((((cfgM m hG.inside).win 1).blk t).view.emb y a).val
    = cc0_transform_1 k0_off1_inb numel1_S1 (tbl m) (grid0.coords t) a * S1x1x2048x1024.size a + 1 * (y a).val := rfl
theorem emb2 (y : S1x1x2048x1024.Idx) (a : Fin 4) : ((((cfgM m hG.inside).win 2).blk t).view.emb y a).val
    = cc0_transform_2 k0_off1_inb numel1_S1 (tbl m) (grid0.coords t) a * S1x1x2048x1024.size a + 1 * (y a).val := rfl
theorem emb3 (y : S1x1x1024x2048.Idx) (a : Fin 4) : ((((cfgM m hG.inside).win 3).blk t).view.emb y a).val
    = cc0_transform_3 k0_off1_inb numel1_S1 (tbl m) (grid0.coords t) a * S1x1x1024x2048.size a + 1 * (y a).val := rfl
theorem emb4 (y : S256x2048.Idx) (a : Fin 2) : ((((cfgM m hG.inside).win 4).blk t).view.emb y a).val
    = cc0_transform_4 k0_off1_inb numel1_S1 (tbl m) (grid0.coords t) a * S256x2048.size a + 1 * (y a).val := rfl

include hG in
theorem tile_lt (n : Fin 336) : tileOf m n < 168 := hG.tile n
include hG in
theorem expert_lt (n : Fin 336) : expertOf m n < 16 := hG.expert n
include hG in
theorem slot_lt (n : Fin 336) : slotOf m n < 2 := hG.slot n

/-- The rows that a point reads. -/
theorem rows_read (r : Fin 256) (k : Fin 2048) : iblk m hG.inside c 0 t (ix2 r k)
    = m ((c : Thread nD τ).loc main_arg4) (ix2 ⟨tileOf m (no hG t) * 256 + r.val, by have := tile_lt hG (no hG t); omega⟩ k) := by
  show V m c main_arg4 ((((cfgM m hG.inside).win 0).blk t).view.emb (ix2 r k)) = _
  rw [V_kept m c main_arg4 (by decide) (by decide) (by decide)]
  refine congrArg _ (funext fun a => Fin.ext ((emb0 hG t _ a).trans ?_))
  rw [block0]
  match a with
  | ⟨0, _⟩ => show tileOf m (no hG t) * 256 + 1 * r.val = tileOf m (no hG t) * 256 + r.val; omega
  | ⟨1, _⟩ => show 0 * 2048 + 1 * k.val = k.val; omega

/-- The expert's weights that a point reads. -/
theorem gate_read (k : Fin 2048) (f : Fin 1024) : iblk m hG.inside c 1 t (ix4 0 0 k f)
    = m ((c : Thread nD τ).loc main_arg5) (ix4 0 ⟨expertOf m (no hG t), expert_lt hG (no hG t)⟩ k f) := by
  show V m c main_v0 ((((cfgM m hG.inside).win 1).blk t).view.emb (ix4 0 0 k f)) = _
  rw [V_w0]
  refine congrArg (m ((c : Thread nD τ).loc main_arg5)) (funext fun a => Fin.ext ((emb1 hG t _ a).trans ?_))
  rw [block1]
  match a with
  | ⟨0, _⟩ => rfl
  | ⟨1, _⟩ => show expertOf m (no hG t) * 1 + 1 * 0 = expertOf m (no hG t); omega
  | ⟨2, _⟩ => show 0 * 2048 + 1 * k.val = k.val; omega
  | ⟨3, _⟩ => show 0 * 1024 + 1 * f.val = f.val; omega
theorem up_read (k : Fin 2048) (f : Fin 1024) : iblk m hG.inside c 2 t (ix4 0 0 k f)
    = m ((c : Thread nD τ).loc main_arg6) (ix4 0 ⟨expertOf m (no hG t), expert_lt hG (no hG t)⟩ k f) := by
  show V m c main_v1 ((((cfgM m hG.inside).win 2).blk t).view.emb (ix4 0 0 k f)) = _
  rw [V_w1]
  refine congrArg (m ((c : Thread nD τ).loc main_arg6)) (funext fun a => Fin.ext ((emb2 hG t _ a).trans ?_))
  rw [block2]
  match a with
  | ⟨0, _⟩ => rfl
  | ⟨1, _⟩ => show expertOf m (no hG t) * 1 + 1 * 0 = expertOf m (no hG t); omega
  | ⟨2, _⟩ => show 0 * 2048 + 1 * k.val = k.val; omega
  | ⟨3, _⟩ => show 0 * 1024 + 1 * f.val = f.val; omega
theorem down_read (f : Fin 1024) (d : Fin 2048) : iblk m hG.inside c 3 t (ix4 0 0 f d)
    = m ((c : Thread nD τ).loc main_arg7) (ix4 0 ⟨expertOf m (no hG t), expert_lt hG (no hG t)⟩ f d) := by
  show V m c main_v2 ((((cfgM m hG.inside).win 3).blk t).view.emb (ix4 0 0 f d)) = _
  rw [V_w2]
  refine congrArg (m ((c : Thread nD τ).loc main_arg7)) (funext fun a => Fin.ext ((emb3 hG t _ a).trans ?_))
  rw [block3]
  match a with
  | ⟨0, _⟩ => rfl
  | ⟨1, _⟩ => show expertOf m (no hG t) * 1 + 1 * 0 = expertOf m (no hG t); omega
  | ⟨2, _⟩ => show 0 * 1024 + 1 * f.val = f.val; omega
  | ⟨3, _⟩ => show 0 * 2048 + 1 * d.val = d.val; omega

/-- The reference's array, of the call's arguments. -/
abbrev want (m : (ℓ : Loc nD τ sig) → Buf (Elt Ideal) ℓ) (c : Dev nD) : S43008x4096.Idx → EReal :=
  Cert.Reference2Ideal.Read.val_main_v48 (F := Ideal) (T0 (tbl m)) (T1 (tbl m)) (T2 (tbl m)) (T3 (tbl m)) (m ((c : Thread nD τ).loc main_arg4))
    (m ((c : Thread nD τ).loc main_arg5)) (m ((c : Thread nD τ).loc main_arg6)) (m ((c : Thread nD τ).loc main_arg7))

/-- What an item leaves is the reference's value at the item's place. -/
theorem left_apply (r : Fin 256) (d : Fin 2048) : left m hG.inside c t (ix2 r d)
    = want m c (ix2 ⟨tileOf m (no hG t) * 256 + r.val, by have := tile_lt hG (no hG t); omega⟩
        ⟨slotOf m (no hG t) * 2048 + d.val, by have := slot_lt hG (no hG t); omega⟩) := by
  have ht := tile_lt hG (no hG t)
  have he := expert_lt hG (no hG t)
  have hs := slot_lt hG (no hG t)
  refine Eq.trans ?_ (ref_apply (T0 (tbl m)) (T1 (tbl m)) (T2 (tbl m)) (T3 (tbl m)) (m ((c : Thread nD τ).loc main_arg4))
    (m ((c : Thread nD τ).loc main_arg5)) (m ((c : Thread nD τ).loc main_arg6)) (m ((c : Thread nD τ).loc main_arg7))
    ⟨tileOf m (no hG t), ht⟩ r ⟨slotOf m (no hG t), hs⟩ d).symm
  have back : ∀ x : BitVec 32, BitVec.ofNat 32 x.toNat = x := fun x => BitVec.eq_of_toNat_eq (by rw [BitVec.toNat_ofNat]; exact Nat.mod_eq_of_lt x.isLt)
  have word : T3 (tbl m) (item (grid0.coords t)) = T3 (tbl m) (ix1 (no hG t)) := congrArg (T3 (tbl m)) (item_eq _)
  rcases hG.valid (no hG t) with hv | hv
  · have hl : left m hG.inside c t = k0_pay2 (F := Ideal) := by
      refine if_neg ?_
      rw [show tbl m 3 (item (grid0.coords t)) = (0#32 : BitVec 32) from word.trans hv]
      exact cond1_zero
    refine (congrFun hl _).trans ((pay2_apply r d).trans ?_)
    refine (Finset.sum_eq_zero fun e _ => ?_).symm
    rw [if_neg, zero_mul]
    rintro ⟨n, h0, h2, h1, h3⟩
    rcases hG.alone n (no hG t) with h | h | h | h
    · rw [h, hv] at h3; exact absurd h3 (by decide)
    · rw [h] at h3; exact absurd h3 (by decide)
    · exact h (h0.trans (back _))
    · exact h (h2.trans (back _))
  · have hl : left m hG.inside c t = k0_pay1 (iblk m hG.inside c 0 t) (iblk m hG.inside c 1 t) (iblk m hG.inside c 2 t) (iblk m hG.inside c 3 t) := by
      refine if_pos ?_
      rw [show tbl m 3 (item (grid0.coords t)) = (1#32 : BitVec 32) from word.trans hv]
      exact cond1_one
    refine (congrFun hl _).trans ((pay1_apply (iblk m hG.inside c 0 t) (iblk m hG.inside c 1 t) (iblk m hG.inside c 2 t)
      (iblk m hG.inside c 3 t) r d).trans ?_)
    rw [Finset.sum_eq_single (⟨expertOf m (no hG t), he⟩ : Fin 16)]
    · rw [if_pos ⟨no hG t, (back _).symm, (back _).symm, (back _).symm, hv⟩, one_mul]
      exact ffn_congr (rows_read hG c t r) (gate_read hG c t) (up_read hG c t) (down_read hG c t) d
    · intro e _ hne
      rw [if_neg, zero_mul]
      rintro ⟨n, h0, h2, h1, h3⟩
      rcases hG.alone n (no hG t) with h | h | h | h
      · refine hne (Fin.ext ?_)
        have h1' : T1 (tbl m) (ix1 (no hG t)) = BitVec.ofNat 32 e.val := h ▸ h1
        show e.val = (T1 (tbl m) (ix1 (no hG t))).toNat
        rw [h1', BitVec.toNat_ofNat]; omega
      · rw [h] at h3; exact absurd h3 (by decide)
      · exact h (h0.trans (back _))
      · exact h (h2.trans (back _))
    · exact fun h => absurd (Finset.mem_univ _) h

/-- A point's block of an array of the result's shape. -/
theorem block_read (A : S43008x4096.Idx → EReal) (r : Fin 256) (d : Fin 2048) :
    (((cfgM m hG.inside).win 4).blk t).view.read (Elt Ideal) A (ix2 r d)
      = A (ix2 ⟨tileOf m (no hG t) * 256 + r.val, by have := tile_lt hG (no hG t); omega⟩
        ⟨slotOf m (no hG t) * 2048 + d.val, by have := slot_lt hG (no hG t); omega⟩) := by
  show A ((((cfgM m hG.inside).win 4).blk t).view.emb (ix2 r d)) = _
  refine congrArg A (funext fun a => Fin.ext ((emb4 hG t _ a).trans ?_))
  rw [block4]
  match a with
  | ⟨0, _⟩ => show tileOf m (no hG t) * 256 + 1 * r.val = tileOf m (no hG t) * 256 + r.val; omega
  | ⟨1, _⟩ => show slotOf m (no hG t) * 2048 + 1 * d.val = slotOf m (no hG t) * 2048 + d.val; omega

theorem flushed_left : (dats m hG.inside 0 c).flushed 4 t = left m hG.inside c t := by
  show (dats m hG.inside 0 c).after 4 t = _
  rw [after_out]

/-- If each entry that a point leaves is an array's at the entry's place, the point writes back the array's block. -/
theorem flushed_of (A : S43008x4096.Idx → EReal)
    (h : ∀ (r : Fin 256) (d : Fin 2048), left m hG.inside c t (ix2 r d)
      = A (ix2 ⟨tileOf m (no hG t) * 256 + r.val, by have := tile_lt hG (no hG t); omega⟩
        ⟨slotOf m (no hG t) * 2048 + d.val, by have := slot_lt hG (no hG t); omega⟩)) :
    (dats m hG.inside 0 c).flushed 4 t = (((cfgM m hG.inside).win 4).blk t).view.read (Elt Ideal) A := by
  rw [flushed_left hG c t]
  refine funext fun (y : S256x2048.Idx) => ?_
  have hy : y = ix2 (y 0) (y 1) := funext fun a => by match a with | ⟨0, _⟩ => rfl | ⟨1, _⟩ => rfl
  rw [hy]
  exact (h (y 0) (y 1)).trans (block_read hG t A (y 0) (y 1)).symm

/-! ## The last item of a place -/

theorem coords_val : ∀ t : Fin grid0.N, (grid0.coords t 0).val = t.val := by decide +kernel
theorem points : (cfgM m hG.inside).N = 336 := show grid0.N = 336 by decide

/-- The point of an item. -/
abbrev pt (n : Fin 336) : Fin (cfgM m hG.inside).N := ⟨n.val, by rw [points hG]; exact n.isLt⟩
theorem no_pt (n : Fin 336) : no hG (pt hG n) = n := Fin.ext (coords_val (pt hG n))

/-- A point that no later one shares its place with writes its block back. -/
theorem flush_last (n : Fin 336) (h : ∀ n' : Fin 336, tileOf m n' = tileOf m n → slotOf m n' = slotOf m n → n' ≤ n) :
    ((cfgM m hG.inside).win 4).flush (pt hG n) = true := by
  have hx : ∀ k : Fin 336, ((cfgM m hG.inside).win 4).index (pt hG k) = (![tileOf m k, slotOf m k] : Fin 2 → ℕ) := fun k =>
    (block4 (tbl m) (grid0.coords (pt hG k))).trans (congrArg (fun k => (![tileOf m k, slotOf m k] : Fin 2 → ℕ)) (no_pt hG k))
  unfold Pipeline.Window.flush
  rw [Bool.and_eq_true, Bool.or_eq_true]
  refine ⟨rfl, ?_⟩
  by_cases hn : n.val + 1 < 336
  · right
    refine decide_eq_true ⟨by show n.val + 1 < (cfgM m hG.inside).N; rw [points hG]; exact hn, fun e => ?_⟩
    have e' : (![tileOf m ⟨n.val + 1, hn⟩, slotOf m ⟨n.val + 1, hn⟩] : Fin 2 → ℕ) = ![tileOf m n, slotOf m n] :=
      (hx ⟨n.val + 1, hn⟩).symm.trans (e.trans (hx n))
    have := h ⟨n.val + 1, hn⟩ (congrFun e' 0) (congrFun e' 1)
    exact absurd (Fin.le_def.mp this) (by show ¬n.val + 1 ≤ n.val; omega)
  · left
    refine decide_eq_true ?_
    show n.val + 1 = (cfgM m hG.inside).N
    rw [points hG]; omega

/-- At every item's place the result array ends at what each item of the place leaves. -/
theorem arr_of (A : S43008x4096.Idx → EReal)
    (h : ∀ (t : Fin (cfgM m hG.inside).N) (r : Fin 256) (d : Fin 2048), left m hG.inside c t (ix2 r d)
      = A (ix2 ⟨tileOf m (no hG t) * 256 + r.val, by have := tile_lt hG (no hG t); omega⟩
        ⟨slotOf m (no hG t) * 2048 + d.val, by have := slot_lt hG (no hG t); omega⟩))
    (n : Fin 336) (r : Fin 256) (d : Fin 2048) (j : S43008x4096.Idx) (h0 : (j 0).val = tileOf m n * 256 + r.val)
    (h1 : (j 1).val = slotOf m n * 2048 + d.val) : (dats m hG.inside 0 c).arrAt 4 (cfgM m hG.inside).N j = A j := by
  obtain ⟨n0, hn0, hmax⟩ := Finset.exists_max_image (Finset.univ.filter fun n' : Fin 336 => tileOf m n' = tileOf m n ∧ slotOf m n' = slotOf m n)
    id ⟨n, by simp⟩
  obtain ⟨ht, hs⟩ := (Finset.mem_filter.mp hn0).2
  have hf := flush_last hG n0 fun n' a b => hmax n' (Finset.mem_filter.mpr ⟨Finset.mem_univ _, a.trans ht, b.trans hs⟩)
  refine (dats m hG.inside 0 c).arrAt_apply_of_mem 4 A (fun t _ => flushed_of hG c t A (h t)) _ (pt hG n0) j (pt hG n0).isLt hf ?_
  have e : (((cfgM m hG.inside).win 4).blk (pt hG n0)).view.emb (ix2 r d) = j := by
    refine funext fun a => Fin.ext ((emb4 hG (pt hG n0) _ a).trans ?_)
    rw [block4]
    have en : num (grid0.coords (pt hG n0)) = n0 := no_pt hG n0
    rw [en]
    match a with
    | ⟨0, _⟩ => show tileOf m n0 * 256 + 1 * r.val = (j 0).val; omega
    | ⟨1, _⟩ => show slotOf m n0 * 2048 + 1 * d.val = (j 1).val; omega
  rw [← e]
  exact View.emb_mem_set _ _

/-- At every item's place the result array ends at the reference's value. -/
theorem result_apply (n : Fin 336) (r : Fin 256) (d : Fin 2048) (j : S43008x4096.Idx) (h0 : (j 0).val = tileOf m n * 256 + r.val)
    (h1 : (j 1).val = slotOf m n * 2048 + d.val) : (dats m hG.inside 0 c).arrAt 4 (cfgM m hG.inside).N j = want m c j :=
  arr_of hG c _ (fun t r d => left_apply hG c t r d) n r d j h0 h1

end Cert.Experts
-- ==== Proof.ExpertClaim.lean ====
module

public import proofs.«01_k».proof.Defs
public import proofs.«01_k».proof.Proof.ExpertValue
public import proofs.«01_k».proof.Proof.Gen.Kernel2
public import Idealize.ShloMosaic.Adequacy
public import Idealize.ShloMosaic.Init
public import Idealize.ShloMosaic.Lib.Tactic
public import Idealize.ShloMosaic.Lib.Ring

/-! The claims about the experts' call: its frames, and its equality with the reference where the list of work names a place. -/

@[expose] public section

set_option maxRecDepth 16384

noncomputable section

namespace Cert.Experts

open Cert.Kernel2Ideal Cert.Kernel2Ideal.Gen
open Idealize.ShloMosaic Idealize.ShloMosaic.TcCoe Idealize.ShloMosaic.Tactic Idealize.SL.Sem

theorem good_ideal {m : (ℓ : Loc nD τ sig) → Buf (Elt Ideal) ℓ} (h : Cert.Pre_Kernel2Ideal m) : GoodAt m :=
  goodAt_of_pre m 0 _ _ _ _ (h 0).1 (h 0).2

/-- The ideal call runs and leaves its arguments and the semaphores as they were. -/
theorem frame_ideal : Cert.quiescent_Kernel2Ideal (hKernel2Ideal := Cert.Kernel2Ideal.Gen.facts)
    (hPre_work_list := Cert.Pre_work_list.Gen.facts) := fun m ρ h => frame m ρ (good_ideal h).inside (good_ideal h).marked

theorem defs_same : Cert.Kernel2.defs (F := Bits) = Cert.Kernel2Ideal.defs (F := Bits) := by sl_kernel_rfl
theorem main_same : Cert.Kernel2.main (F := Bits) = Cert.Kernel2Ideal.main (F := Bits) := rfl

/-- The call over machine words has the ideal call's text: the same run. -/
theorem frame_bits : Cert.quiescent_Kernel2 (hKernel2 := Cert.Kernel2.Gen.facts)
    (hPre_work_list := Cert.Pre_work_list.Gen.facts) := by
  intro m ρ h
  have hG : GoodAt (F := Bits) m := goodAt_of_pre (F := Bits) m 0 _ _ _ _ (h 0).1 (h 0).2
  rw [defs_same, main_same]
  exact frame (F := Bits) m ρ hG.inside hG.marked

/-- The reference runs and leaves its arguments and the semaphores as they were. -/
theorem frame_reference : Cert.quiescent_Reference2Ideal (hReference2Ideal := Cert.Reference2Ideal.Gen.facts)
    (hPre_work_list := Cert.Pre_work_list.Gen.facts) := by
  intro m ρ _
  exact (θ_run Cert.Reference2Ideal.defs _ _).mono (fun r h => ⟨fun c => (h c).2, sem_eq_zero_of_no_sems (by decide) r.2⟩)
    (Cert.Reference2Ideal.Value.run (F := Ideal) m ρ)

/-- An index of the result by its tile, row, slot and lane. -/
theorem place_index (y : S43008x4096.Idx) : ∃ (i : Fin 168) (r : Fin 256) (s : Fin 2) (d : Fin 2048),
    y = ix2 ⟨i.val * 256 + r.val, by omega⟩ ⟨s.val * 2048 + d.val, by omega⟩ := by
  have h0 : (y 0).val < 43008 := (y 0).isLt
  have h1 : (y 1).val < 4096 := (y 1).isLt
  refine ⟨⟨(y 0).val / 256, by omega⟩, ⟨(y 0).val % 256, by omega⟩, ⟨(y 1).val / 2048, by omega⟩, ⟨(y 1).val % 2048, by omega⟩,
    funext fun a => Fin.ext ?_⟩
  match a with
  | ⟨0, _⟩ => show (y 0).val = (y 0).val / 256 * 256 + (y 0).val % 256; omega
  | ⟨1, _⟩ => show (y 1).val = (y 1).val / 2048 * 2048 + (y 1).val % 2048; omega

/-- Where the mask is set, the call's result array is the reference's. -/
theorem result_listed {m : (ℓ : Loc nD τ sig) → Buf (Elt Ideal) ℓ} (hG : GoodAt m) (c : Dev nD) (y : S43008x4096.Idx)
    (hy : Cert.On_listed.fn (F := Ideal) (T0 (tbl m)) (T1 (tbl m)) (T2 (tbl m)) (T3 (tbl m)) (m ((c : Thread nD τ).loc main_arg4))
      (m ((c : Thread nD τ).loc main_arg5)) (m ((c : Thread nD τ).loc main_arg6)) (m ((c : Thread nD τ).loc main_arg7)) y = 1#1) :
    (dats m hG.inside 0 c).arrAt 4 (cfgM m hG.inside).N y = want m c y := by
  obtain ⟨i, r, s, d, rfl⟩ := place_index y
  obtain ⟨n, h0, h2⟩ := named_of_listed _ _ _ _ _ _ _ _ i r s d hy
  refine result_apply hG c n r d _ ?_ ?_
  · show i.val * 256 + r.val = (T0 (tbl m) (ix1 n)).toNat * 256 + r.val
    rw [h0, BitVec.toNat_ofNat, Nat.mod_eq_of_lt (by omega)]
  · show s.val * 2048 + d.val = (T2 (tbl m) (ix1 n)).toNat * 2048 + d.val
    rw [h2, BitVec.toNat_ofNat, Nat.mod_eq_of_lt (by omega)]

/-- The reference's result depends on its arguments alone. -/
theorem val_congr {x0 x1 x2 x3 y0 y1 y2 y3 : (⟨Cert.Reference2Ideal.S336, .i32⟩ : BufTy).Contents (Elt Ideal)}
    {x4 y4 : (⟨Cert.Reference2Ideal.S43008x2048, .f32⟩ : BufTy).Contents (Elt Ideal)}
    {x5 x6 y5 y6 : (⟨Cert.Reference2Ideal.S4x16x2048x1024, .f32⟩ : BufTy).Contents (Elt Ideal)}
    {x7 y7 : (⟨Cert.Reference2Ideal.S4x16x1024x2048, .f32⟩ : BufTy).Contents (Elt Ideal)} (e0 : x0 = y0) (e1 : x1 = y1)
    (e2 : x2 = y2) (e3 : x3 = y3) (e4 : x4 = y4) (e5 : x5 = y5) (e6 : x6 = y6) (e7 : x7 = y7) :
    Cert.Reference2Ideal.Read.val_main_v48 (F := Ideal) x0 x1 x2 x3 x4 x5 x6 x7 =
      Cert.Reference2Ideal.Read.val_main_v48 (F := Ideal) y0 y1 y2 y3 y4 y5 y6 y7 := by
  rw [e0, e1, e2, e3, e4, e5, e6, e7]

/-- The call and the reference compute the same function at the places that the list of work names. -/
theorem algebraic : Cert.algebraic_Kernel2Ideal_Reference2Ideal_on_listed (hKernel2Ideal := Cert.Kernel2Ideal.Gen.facts)
    (hReference2Ideal := Cert.Reference2Ideal.Gen.facts) (hPre_work_list := Cert.Pre_work_list.Gen.facts)
    (hOn_listed := Cert.On_listed.Gen.facts) := by
  intro m g m' g' hp hm
  have hG := good_ideal hp
  refine ⟨fun c => (dats m hG.inside 0 c).arrAt 4 (cfgM m hG.inside).N, ?_, ?_⟩
  · exact (θ_run Cert.Kernel2Ideal.defs _ _).mono (fun r h c => ⟨fun y _ => congrFun (h.1 c).1 y, (h.1 c).2⟩)
      (run_result m g hG.inside hG.marked)
  · refine (θ_run Cert.Reference2Ideal.defs _ _).mono (fun r h c => ⟨fun y hy => ?_, (h c).2⟩)
      (Cert.Reference2Ideal.Value.run (F := Ideal) m' g')
    refine (congrFun (h c).1 y).trans ((congrFun (Cert.Reference2Ideal.Read.val_main_v48_eq (F := Ideal)
      (m' ((c : Thread Cert.Reference2Ideal.nD Cert.Reference2Ideal.τ).loc Cert.Reference2Ideal.main_arg0))
      (m' ((c : Thread Cert.Reference2Ideal.nD Cert.Reference2Ideal.τ).loc Cert.Reference2Ideal.main_arg1))
      (m' ((c : Thread Cert.Reference2Ideal.nD Cert.Reference2Ideal.τ).loc Cert.Reference2Ideal.main_arg2))
      (m' ((c : Thread Cert.Reference2Ideal.nD Cert.Reference2Ideal.τ).loc Cert.Reference2Ideal.main_arg3))
      (m' ((c : Thread Cert.Reference2Ideal.nD Cert.Reference2Ideal.τ).loc Cert.Reference2Ideal.main_arg4))
      (m' ((c : Thread Cert.Reference2Ideal.nD Cert.Reference2Ideal.τ).loc Cert.Reference2Ideal.main_arg5))
      (m' ((c : Thread Cert.Reference2Ideal.nD Cert.Reference2Ideal.τ).loc Cert.Reference2Ideal.main_arg6))
      (m' ((c : Thread Cert.Reference2Ideal.nD Cert.Reference2Ideal.τ).loc Cert.Reference2Ideal.main_arg7))) y).trans ?_)
    rw [← tbl0 m c, ← tbl1 m c, ← tbl2 m c, ← tbl3 m c] at hy
    refine Eq.trans ?_ (result_listed hG c y hy).symm
    exact congrFun (val_congr ((hm c).1.trans (tbl0 m c).symm) ((hm c).2.1.trans (tbl1 m c).symm)
      ((hm c).2.2.1.trans (tbl2 m c).symm) ((hm c).2.2.2.1.trans (tbl3 m c).symm) (hm c).2.2.2.2.1 (hm c).2.2.2.2.2.1
      (hm c).2.2.2.2.2.2.1 (hm c).2.2.2.2.2.2.2) y

end Cert.Experts
-- ==== Proof.NormRun.lean ====
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp
public import Idealize.ShloMosaic.Lib.Claim
public import Idealize.ShloMosaic.Lib.WholeRead
public import Idealize.ShloMosaic.Lib.WritesUnit

/-! The normalised input projection of the odd layers, run. A row tile is normalised and modulated at its first grid point,
into a scratch buffer that its eight points share; that point also computes the tile's gate logits, and every point
multiplies the scratch by its own tile of the weights. The call terminates without a fault, its arguments end unchanged, and
its two result arrays are what the points write back. -/

@[expose] public section

set_option maxRecDepth 16384

noncomputable section

namespace Cert.NormProj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the call starts -/

/-- A core's buffers when the call starts: the weights are cut, padded and cast. -/
abbrev V (c : Dev nD) (b : Ref sig .tc) : Buf (Elt F) ((c : Thread nD τ).loc b) := StableHlo.after hostOps0 (fun b => m (c, b)) b

theorem prepare_fresh : (hostOps0 : List (HloOp τ sig (Elt F))).Forall fun op => op.fresh = ∅ := by
  simp only [List.Forall]; repeat' constructor

set_option maxHeartbeats 800000 in
/-- The program prepares the weights and then makes the call. -/
theorem main_prepare (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub prepare_fresh main_chain

/-- The preparation writes no buffer but its own seven. -/
theorem V_kept (c : Dev nD) (b : Ref sig .tc)
    (h : b ≠ main_v0 ∧ b ≠ main_v1 ∧ b ≠ main_v2 ∧ b ≠ main_cst ∧ b ≠ main_v3 ∧ b ≠ main_v4 ∧ b ≠ main_v5) :
    V m c b = m ((c : Thread nD τ).loc b) :=
  StableHlo.after_of_forall_not_mem (b := Proc.devRef .tc b) _ _ (List.forall_iff_forall_mem.mp (by
    obtain ⟨h0, h1, h2, h3, h4, h5, h6⟩ := h
    simp only [hostOps0, List.Forall, StableHlo.nullary_writes, StableHlo.unary_writes, StableHlo.binary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6⟩))

/-- A window's block at a point, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body on any staging buffers -/

/-- A load of a whole buffer reads its contents. -/
theorem load_all {Val : EltTy → Type} {sig' : RefSig} {κ : Kind} {sp : Space} {S : Shape} {e : EltTy} {M : Memref sig' κ sp S e}
    (h : M.IsWhole) (X : S.Idx → Val e) (off : Fin S.rank → ℕ) (h0 : off = fun _ => 0) (inb : ∀ a, off a + S.size a ≤ S.size a) :
    View.readAt Val M.view (Rect.unit off S.size inb).toLoadRect (h.unread X) = X := by
  subst h0
  funext x
  refine (h.readAt_unread X _ x).trans (congrArg X (funext fun a => Fin.ext ?_))
  show 0 + 1 * (x a).val = (x a).val
  omega

/-- A store over a whole buffer leaves what it stores, -/
theorem store_all {Val : EltTy → Type} {sig' : RefSig} {κ : Kind} {sp : Space} {S : Shape} {e : EltTy} (v : View sig' κ sp S e)
    (f : v.ty.Contents Val) (off : Fin S.rank → ℕ) (h0 : off = fun _ => 0) (inb : ∀ a, off a + S.size a ≤ S.size a)
    (w : S.Idx → Val e) : v.read Val (v.writes Val f [⟨Rect.unit off S.size inb, w⟩]) = w :=
  funext fun y => View.read_writes_cons_unit_of_mem v f inb w [] y y h0 fun a => (Nat.zero_add _).symm

/-- and a load of the whole buffer after it reads that. -/
theorem load_stored {Val : EltTy → Type} {sig' : RefSig} {κ : Kind} {sp : Space} {S : Shape} {e : EltTy} (v : View sig' κ sp S e)
    (f : v.ty.Contents Val) (off : Fin S.rank → ℕ) (h0 : off = fun _ => 0) (inb : ∀ a, off a + S.size a ≤ S.size a)
    (w : S.Idx → Val e) :
    v.readAt Val (Rect.unit off S.size inb).toLoadRect (v.writes Val f [⟨Rect.unit off S.size inb, w⟩]) = w := by
  funext x
  refine (View.readAt_apply _ _ _).trans ((congrFun (store_all v f off h0 inb w) _).trans (congrArg w (funext fun a => Fin.ext ?_)))
  subst h0
  show 0 + 1 * (x a).val = (x a).val
  omega

theorem off2_zero : (![0, 0] : Fin 2 → ℕ) = fun _ => 0 := by funext a; fin_cases a <;> rfl
theorem off3_zero : (![0, 0, 0] : Fin 3 → ℕ) = fun _ => 0 := by funext a; fin_cases a <;> rfl

section body

variable (c : Dev nD) (i : grid0.Coords)
  (arg2 : Memref sig .tc .vmem S1024x2048 .f32) (harg2 : arg2.IsWhole) (arg3 : Memref sig .tc .vmem S1x6x2048 .f32) (harg3 : arg3.IsWhole)
  (arg4 : Memref sig .tc .vmem S1x2048 .f32) (harg4 : arg4.IsWhole) (arg5 : Memref sig .tc .vmem S2048x1024 .bf16) (harg5 : arg5.IsWhole)
  (arg6 : Memref sig .tc .vmem S1024x128 .f32) (harg6 : arg6.IsWhole) (arg7 : Memref sig .tc .vmem S1024x128 .f32) (harg7 : arg7.IsWhole)
  (arg8 : Memref sig .tc .vmem S2048x128 .bf16) (harg8 : arg8.IsWhole) (arg9 : Memref sig .tc .vmem S1024x1024 .bf16) (harg9 : arg9.IsWhole)
  (arg10 : Memref sig .tc .vmem S1024x128 .f32) (harg10 : arg10.IsWhole) (arg11 : Memref sig .tc .vmem S1024x2048 .bf16) (harg11 : arg11.IsWhole)
  (x0 : Vec F S1024x2048 .f32) (x1 : Vec F S1x6x2048 .f32) (x2 : Vec F S1x2048 .f32) (x3 : Vec F S2048x1024 .bf16)
  (x6 : Vec F S2048x128 .bf16) (u : Vec F S1024x2048 .bf16)

set_option maxHeartbeats 1000000 in
/-- The first point of a row tile: the scratch takes the normalised and modulated rows, the second output the gate logits, the
first output the rows' products. -/
theorem run_first (hc : k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare x6
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare x6
            ∗ owns (c : Thread nD τ) arg9 fullShare (k0_pay3 (k0_pay1 x0 x2 x1) x3) ∗ owns (c : Thread nD τ) arg10 fullShare (k0_pay2 (k0_pay1 x0 x2 x1) x6) ∗ owns (c : Thread nD τ) arg11 fullShare (k0_pay1 x0 x2 x1)) -∗ K ⟨⟩))
      ⊢ wp frame (wpE (defs₀ (F := F)) Variants.none c none) E
        (cc0_norm_mm i arg2 harg2 arg3 harg3 arg4 harg4 arg5 harg5 arg6 harg6 arg7 harg7 arg8 harg8 arg9 harg9 arg10 harg10 arg11 harg11) K := by
  simp only [cc0_norm_mm_eq_skeleton]; unfold cc0_norm_mm_skel
  unfold owns
  iintro ⟨⟨%f0, %hf0, H0⟩, ⟨%f1, %hf1, H1⟩, ⟨%f2, %hf2, H2⟩, ⟨%f3, %hf3, H3⟩, ⟨%f6, %hf6, H6⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2
  obtain rfl := harg5.eq_unread hf3; obtain rfl := harg8.eq_unread hf6
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr; · ipureintro; exact harg8.read_unread _
    iexact H6
  isplitl [H9]
  · iexists _; isplitr
    swap; · iexact H9
    ipureintro
    refine (store_all arg9.view _ _ off2_zero _ _).trans (congrArg₂ k0_pay3 ((load_stored arg11.view _ _ off2_zero _ _).trans ?_) (load_all harg5 _ _ off2_zero _)); rw [load_all harg2 _ _ off2_zero, load_all harg4 _ _ off2_zero, load_all harg3 _ _ off3_zero]
  isplitl [H10]
  · iexists _; isplitr
    swap; · iexact H10
    ipureintro
    refine (store_all arg10.view _ _ off2_zero _ _).trans (congrArg₂ k0_pay2 ((load_stored arg11.view _ _ off2_zero _ _).trans ?_) (load_all harg8 _ _ off2_zero _)); rw [load_all harg2 _ _ off2_zero, load_all harg4 _ _ off2_zero, load_all harg3 _ _ off3_zero]
  iexists _; isplitr
  swap; · iexact H11
  ipureintro
  refine (store_all arg11.view _ _ off2_zero _ _).trans ?_; rw [load_all harg2 _ _ off2_zero, load_all harg4 _ _ off2_zero, load_all harg3 _ _ off3_zero]

set_option maxHeartbeats 1000000 in
/-- Another point of a row tile: the first output takes the scratch's products; the scratch and the second output are as found. -/
theorem run_later (hc : ¬k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare x6
        ∗ (∃ d, owns (c : Thread nD τ) arg9 fullShare d) ∗ owns (c : Thread nD τ) arg11 fullShare u
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare x6
            ∗ owns (c : Thread nD τ) arg9 fullShare (k0_pay3 u x3) ∗ owns (c : Thread nD τ) arg11 fullShare u) -∗ K ⟨⟩))
      ⊢ wp frame (wpE (defs₀ (F := F)) Variants.none c none) E
        (cc0_norm_mm i arg2 harg2 arg3 harg3 arg4 harg4 arg5 harg5 arg6 harg6 arg7 harg7 arg8 harg8 arg9 harg9 arg10 harg10 arg11 harg11) K := by
  simp only [cc0_norm_mm_eq_skeleton]; unfold cc0_norm_mm_skel
  unfold owns
  iintro ⟨⟨%f0, %hf0, H0⟩, ⟨%f1, %hf1, H1⟩, ⟨%f2, %hf2, H2⟩, ⟨%f3, %hf3, H3⟩, ⟨%f6, %hf6, H6⟩, ⟨%d9, %f9, -, H9⟩, ⟨%f11, %hf11, H11⟩, Hk⟩
  obtain rfl := harg2.eq_unread hf0; obtain rfl := harg3.eq_unread hf1; obtain rfl := harg4.eq_unread hf2
  obtain rfl := harg5.eq_unread hf3; obtain rfl := harg8.eq_unread hf6
  obtain rfl := harg11.eq_unread hf11
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr; · ipureintro; exact harg8.read_unread _
    iexact H6
  isplitl [H9]
  · iexists _; isplitr
    swap; · iexact H9
    ipureintro
    exact (store_all arg9.view _ _ off2_zero _ _).trans (congrArg₂ k0_pay3 (load_all harg11 _ _ off2_zero _) (load_all harg5 _ _ off2_zero _))
  iexists _; isplitr
  swap; · iexact H11
  ipureintro
  exact harg11.read_unread _

end body

/-! ## The pipeline's proof data -/

/-- The first point of a point's row tile. -/
def first (t : Fin cfg0.N) : Fin cfg0.N := ⟨t.val / 8 * 8, by have := t.isLt; omega⟩

theorem first_of {t : Fin cfg0.N} (h : t.val % 8 = 0) : first t = t := Fin.ext (show t.val / 8 * 8 = t.val by omega)
theorem first_pred {t : Fin cfg0.N} (h : t.val % 8 ≠ 0) (hlt : t.val - 1 < cfg0.N) : first ⟨t.val - 1, hlt⟩ = first t :=
  Fin.ext (show (t.val - 1) / 8 * 8 = t.val / 8 * 8 by omega)

/-- The rows of the tile that starts at a point, normalised and modulated. -/
def rows (c : Dev nD) (s : Fin cfg0.N) : Vec F S1024x2048 .bf16 := k0_pay1 (iblk m c 0 s) (iblk m c 2 s) (iblk m c 1 s)

/-- What the scratch holds before a point: after the first point, the rows of the tile of the point before. -/
def Held (c : Dev nD) (p : ℕ) (X : Vec F S1024x2048 .bf16) : Prop :=
  ∀ (hp : p ≠ 0) (h : p - 1 < cfg0.N), X = rows m c (first ⟨p - 1, h⟩)

abbrev scratch : Memref sig .tc .vmem S1024x2048 .bf16 := Memref.whole cc0_scratch0

/-- The proof data: the inputs' buffers hold their blocks, the outputs' what the points leave, the scratch the tile's rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay3 (rows m c (first t)) (iblk m c 3 t)
    | ⟨8, _⟩ => k0_pay2 (rows m c (first t)) (iblk m c 6 (first t))
  Φ p := iprop((∃ X, ⌜Held m c p.val X⌝ ∗ owns (c : Thread nD τ) scratch fullShare X) ∗ ∃ r, prngReg c r)
  q _ := fullShare
  owed _ := 0

theorem A_eq (c : Dev nD) (w : Fin cfg0.W) : (dats m 0 c).A w = V m c (Pipeline.arrRef spec0 w) := by dsimp only [dats]
theorem after7 (c : Dev nD) (t : Fin cfg0.N) : (dats m 0 c).after 7 t = k0_pay3 (rows m c (first t)) (iblk m c 3 t) := by
  dsimp only [dats]; try rfl
theorem after8 (c : Dev nD) (t : Fin cfg0.N) : (dats m 0 c).after 8 t = k0_pay2 (rows m c (first t)) (iblk m c 6 (first t)) := by
  dsimp only [dats]; try rfl
theorem Φ_eq (c : Dev nD) (p : Fin (cfg0.N + 1)) : (dats m 0 c).Φ p
    = iprop((∃ X, ⌜Held m c p.val X⌝ ∗ owns (c : Thread nD τ) scratch fullShare X) ∗ ∃ r, prngReg c r) := by dsimp only [dats]

/-- Input 0's buffer holds its block, before the body and after it. -/
theorem after0 (c : Dev nD) (t : Fin cfg0.N) : (dats m 0 c).after 0 t = iblk m c 0 t := by dsimp only [dats]; try rfl
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)

/-- Input 1's buffer holds its block, before the body and after it. -/
theorem after1 (c : Dev nD) (t : Fin cfg0.N) : (dats m 0 c).after 1 t = iblk m c 1 t := by dsimp only [dats]; try rfl
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)

/-- Input 2's buffer holds its block, before the body and after it. -/
theorem after2 (c : Dev nD) (t : Fin cfg0.N) : (dats m 0 c).after 2 t = iblk m c 2 t := by dsimp only [dats]; try rfl
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)

/-- Input 3's buffer holds its block, before the body and after it. -/
theorem after3 (c : Dev nD) (t : Fin cfg0.N) : (dats m 0 c).after 3 t = iblk m c 3 t := by dsimp only [dats]; try rfl
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-- Input 4's buffer holds its block, before the body and after it. -/
theorem after4 (c : Dev nD) (t : Fin cfg0.N) : (dats m 0 c).after 4 t = iblk m c 4 t := by dsimp only [dats]; try rfl
theorem before4 (c : Dev nD) (t : Fin cfg0.N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)

/-- Input 5's buffer holds its block, before the body and after it. -/
theorem after5 (c : Dev nD) (t : Fin cfg0.N) : (dats m 0 c).after 5 t = iblk m c 5 t := by dsimp only [dats]; try rfl
theorem before5 (c : Dev nD) (t : Fin cfg0.N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-- Input 6's buffer holds its block, before the body and after it. -/
theorem after6 (c : Dev nD) (t : Fin cfg0.N) : (dats m 0 c).after 6 t = iblk m c 6 t := by dsimp only [dats]; try rfl
theorem before6 (c : Dev nD) (t : Fin cfg0.N) (d) : (dats m 0 c).before 6 t d = iblk m c 6 t :=
  ((dats m 0 c).before_in_eq_fetched 6 rfl (fun _ => rfl) (fun _ _ _ => rfl)
    (fun t => by rw [after6]; unfold Dat.blockOf iblk; rw [A_eq]; try rfl) t d).trans
    (by unfold Dat.fetched Dat.blockOf iblk; rw [A_eq]; try rfl)

/-- The body normalises at the first point of each row tile, and only there stores into the second output. -/
theorem cond_iff : ∀ t : Fin cfg0.N, k0_cond1 (grid0.coords t) = 1#1 ↔ t.val % 8 = 0 :=
  (by decide +kernel : ∀ t : Fin grid0.N, k0_cond1 (grid0.coords t) = 1#1 ↔ t.val % 8 = 0)

theorem idle8 (t : Fin cfg0.N) : cfg0.idle 8 (cfg0.grid.coords t) = !decide (t.val % 8 = 0) := by
  show (!(k0_cond1 (grid0.coords t) == 1#1)) = _
  by_cases h : t.val % 8 = 0
  · rw [(cond_iff t).mpr h]; simp [h]
  · have := mt (cond_iff t).mp h
    simp [h, this]

theorem flush8 (t : Fin cfg0.N) : (cfg0.win 8).flush t = decide (t.val % 8 = 7) := by
  by_cases h : t.val % 8 = 7
  · rw [(flush0_8 t).mpr h]; simp [h]
  · rw [Bool.eq_false_iff.mpr (mt (flush0_8 t).mp h)]; simp [h]

/-- The second output's buffer is fresh at the first point of each row tile. -/
theorem fresh8 (n : ℕ) (hn : n ≤ cfg0.N) : cfg0.fresh 8 n = decide (n % 8 = 0) :=
  Pipeline.Cfg.fresh_tab cfg0 8 (fun n => decide (n % 8 = 0)) rfl (fun t => by
    rw [idle8, flush8]
    by_cases h7 : t.val % 8 = 7
    · have : (t.val + 1) % 8 = 0 := by omega
      simp [h7, this]
    · have : ¬(t.val + 1) % 8 = 0 := by omega
      simp [h7, this]) n hn

/-- At any other point of a row tile the second output's buffer holds the tile's gate logits. -/
theorem before8 (c : Dev nD) (t : Fin cfg0.N) (h : t.val % 8 ≠ 0) (d) : (dats m 0 c).before 8 t d = (dats m 0 c).after 8 t := by
  have hc : ∀ (t : Fin cfg0.N) (h : t.val % 8 ≠ 0), (dats m 0 c).after 8 ⟨t.val - 1, by omega⟩ = (dats m 0 c).after 8 t := by
    intro t h; rw [after8, after8, first_pred h]
  refine ((dats m 0 c).before_out_traj 8 rfl (fun _ _ => rfl) (fun t _ hi _ => (hc t ?_).symm) t.val t rfl d).trans ?_
  · rw [idle8] at hi
    simpa using hi
  · rw [fresh8 _ t.isLt.le, if_neg (by simp [h])]
    exact hc t h

/-! ## The body obligation -/

abbrev stg0 (t : Fin cfg0.N) : Memref sig .tc .vmem S1024x2048 .f32 := win0_0.stage (cfg0.slots t 0)
abbrev stg1 (t : Fin cfg0.N) : Memref sig .tc .vmem S1x6x2048 .f32 := win0_1.stage (cfg0.slots t 1)
abbrev stg2 (t : Fin cfg0.N) : Memref sig .tc .vmem S1x2048 .f32 := win0_2.stage (cfg0.slots t 2)
abbrev stg3 (t : Fin cfg0.N) : Memref sig .tc .vmem S2048x1024 .bf16 := win0_3.stage (cfg0.slots t 3)
abbrev stg4 (t : Fin cfg0.N) : Memref sig .tc .vmem S1024x128 .f32 := win0_4.stage (cfg0.slots t 4)
abbrev stg5 (t : Fin cfg0.N) : Memref sig .tc .vmem S1024x128 .f32 := win0_5.stage (cfg0.slots t 5)
abbrev stg6 (t : Fin cfg0.N) : Memref sig .tc .vmem S2048x128 .bf16 := win0_6.stage (cfg0.slots t 6)
abbrev stg7 (t : Fin cfg0.N) : Memref sig .tc .vmem S1024x1024 .bf16 := win0_7.stage (cfg0.slots t 7)
abbrev stg8 (t : Fin cfg0.N) : Memref sig .tc .vmem S1024x128 .f32 := win0_8.stage (cfg0.slots t 8)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

/-- and what it returns: at a point that neither stores the second output nor writes it back, that buffer as found. -/
def bodyPost (c : Dev nD) (t : Fin cfg0.N) : sProp 𝕄 :=
  iprop((dats m 0 c).Φ t.succ ∗ (dats m 0 c).owesAt () t.succ
    ∗ owns (c : Thread nD τ) (stg0 t) fullShare ((dats m 0 c).after 0 t)
    ∗ owns (c : Thread nD τ) (stg1 t) fullShare ((dats m 0 c).after 1 t)
    ∗ owns (c : Thread nD τ) (stg2 t) fullShare ((dats m 0 c).after 2 t)
    ∗ owns (c : Thread nD τ) (stg3 t) fullShare ((dats m 0 c).after 3 t)
    ∗ owns (c : Thread nD τ) (stg4 t) fullShare ((dats m 0 c).after 4 t)
    ∗ owns (c : Thread nD τ) (stg5 t) fullShare ((dats m 0 c).after 5 t)
    ∗ owns (c : Thread nD τ) (stg6 t) fullShare ((dats m 0 c).after 6 t)
    ∗ owns (c : Thread nD τ) (stg7 t) fullShare ((dats m 0 c).after 7 t)
    ∗ (match cfg0.idle 8 (cfg0.grid.coords t) with
        | true =>
          match (cfg0.win 8).flush t with
          | false => iprop(∃ d, owns (c : Thread nD τ) (stg8 t) fullShare ((dats m 0 c).before 8 t d))
          | true => owns (c : Thread nD τ) (stg8 t) fullShare ((dats m 0 c).after 8 t)
        | false => owns (c : Thread nD τ) (stg8 t) fullShare ((dats m 0 c).after 8 t)))

/-- The second output's buffer at what the tile's gate logits are is what a point has to leave there. -/
theorem leave8 (c : Dev nD) (t : Fin cfg0.N) : owns (c : Thread nD τ) (stg8 t) fullShare ((dats m 0 c).after 8 t)
    ⊢ (match cfg0.idle 8 (cfg0.grid.coords t) with
        | true =>
          match (cfg0.win 8).flush t with
          | false => iprop(∃ d, owns (c : Thread nD τ) (stg8 t) fullShare ((dats m 0 c).before 8 t d))
          | true => owns (c : Thread nD τ) (stg8 t) fullShare ((dats m 0 c).after 8 t)
        | false => owns (c : Thread nD τ) (stg8 t) fullShare ((dats m 0 c).after 8 t) : sProp 𝕄) := by
  rw [idle8, flush8]
  by_cases h : t.val % 8 = 0
  · simp only [h, decide_true, Bool.not_true]
    exact .rfl
  · by_cases h7 : t.val % 8 = 7
    · simp only [h, h7, decide_true, decide_false, Bool.not_false]
      exact .rfl
    · simp only [h, h7, decide_false, Bool.not_false]
      iintro H
      iexists ((dats m 0 c).after 8 t)
      rw [before8 m c t h]
      iexact H

theorem held_next (c : Dev nD) (t : Fin cfg0.N) : Held m c (t.val + 1) (rows m c (first t)) := fun _ _ => rfl

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6]
  rw [show (dats m 0 c).owesAt () t.succ = (dats m 0 c).owesAt () t.castSucc from rfl, after0, after1, after2, after3, after4, after5,
    after6, after7, Φ_eq, Φ_eq, show t.succ.val = t.val + 1 from rfl, show t.castSucc.val = t.val from rfl]
  by_cases h : t.val % 8 = 0
  · iintro ⟨⟨⟨%X, -, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run_first c (grid0.coords t) (stg0 t) _ (stg1 t) _ (stg2 t) _ (stg3 t) _ (stg4 t) _ (stg5 t) _ (stg6 t) _ (stg7 t) _ (stg8 t) _
      scratch _ (iblk m c 0 t) (iblk m c 1 t) (iblk m c 2 t) (iblk m c 3 t) (iblk m c 6 t) ((cond_iff t).mpr h) Set.univ _)
    isplitl [H0]; · iexact H0
    isplitl [H1]; · iexact H1
    isplitl [H2]; · iexact H2
    isplitl [H3]; · iexact H3
    isplitl [H6]; · iexact H6
    isplitl [H7]; · iexists _; iexact H7
    isplitl [H8]; · iexists _; iexact H8
    isplitl [HS]; · iexists _; iexact HS
    iintro ⟨H0, H1, H2, H3, H6, H7, H8, HS⟩
    isplitl [HS HR]
    · isplitl [HS]
      · iexists (rows m c (first t))
        isplitr; · ipureintro; exact held_next m c t
        rw [first_of h]
        iexact HS
      · iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · rw [first_of h]; iexact H7
    iapply (leave8 m c t)
    rw [after8, first_of h]
    iexact H8
  · iintro ⟨⟨⟨%X, %hX, HS⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hX' : X = rows m c (first t) := (hX (by omega) (by omega)).trans (by rw [first_pred h])
    subst hX'
    iapply (run_later c (grid0.coords t) (stg0 t) _ (stg1 t) _ (stg2 t) _ (stg3 t) _ (stg4 t) _ (stg5 t) _ (stg6 t) _ (stg7 t) _ (stg8 t) _
      scratch _ (iblk m c 0 t) (iblk m c 1 t) (iblk m c 2 t) (iblk m c 3 t) (iblk m c 6 t) (rows m c (first t))
      (fun hc => h ((cond_iff t).mp hc)) Set.univ _)
    isplitl [H0]; · iexact H0
    isplitl [H1]; · iexact H1
    isplitl [H2]; · iexact H2
    isplitl [H3]; · iexact H3
    isplitl [H6]; · iexact H6
    isplitl [H7]; · iexists _; iexact H7
    isplitl [HS]; · iexact HS
    iintro ⟨H0, H1, H2, H3, H6, H7, HS⟩
    isplitl [HS HR]
    · isplitl [HS]
      · iexists (rows m c (first t))
        isplitr; · ipureintro; exact held_next m c t
        iexact HS
      · iexact HR
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iapply (leave8 m c t)
    rw [before8 m c t h]
    iexact H8

theorem body_row (t : Fin cfg0.N) : defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

/-- The scratch as a buffer and as a memref at its contents. -/
theorem scratch_eq (c : Dev nD) (f : Buf (Elt F) ((c : Thread nD τ).loc cc0_scratch0)) :
    (owns (c : Thread nD τ) scratch fullShare f : sProp 𝕄) = ((c : Thread nD τ).loc cc0_scratch0) ↦{fullShare} f :=
  owns_whole (c : Thread nD τ) cc0_scratch0 fullShare f

theorem held_start (c : Dev nD) (X : Vec F S1024x2048 .bf16) : Held m c 0 X := fun hp _ => absurd rfl hp

/-- The scratch at anything is what the first point needs, -/
theorem enter (c : Dev nD) : Pipeline.ΦA spec0 c ⊢ (dats m 0 c).Φ 0 := by
  rw [Φ_eq, show ((0 : Fin (cfg0.N + 1)).val) = 0 from rfl]
  unfold Pipeline.ΦA
  rw [scopedRest0_eq]
  simp only [← scratch_eq]
  iintro ⟨⟨%f, H⟩, HR⟩
  isplitl [H]
  · iexists f
    isplitr; · ipureintro; exact held_start m c f
    iexact H
  · iexact HR

/-- and the last point leaves it at something. -/
theorem leave (c : Dev nD) : (dats m 0 c).Φ (Fin.last cfg0.N) ⊢ Pipeline.ΦA spec0 c := by
  rw [Φ_eq]
  unfold Pipeline.ΦA
  rw [scopedRest0_eq]
  simp only [← scratch_eq]
  iintro ⟨⟨%X, -, H⟩, HR⟩
  isplitl [H]
  · iexists X; iexact H
  · iexact HR

set_option backward.isDefEq.respectTransparency.types false in
/-- The whole program runs; at its end the windows' arrays are what the points write back, every other array is as the call
found it, and every semaphore is at zero. -/
theorem run : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := main_prepare m Variants.none) (hA := A_eq m) (hin := enter m) (hout := leave m)

/-- The arguments at a final memory are what they were. -/
abbrev ArgsKept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)

/-- The run, with the two result arrays and the arguments. -/
theorem run_results : θ_run defs (onTc (τ := τ) (main (F := F))) ⟨m, fun _ => 0, ρ⟩
    (fun r => (∀ c : Dev nD, (r.2.mem ((c.tc : Thread nD τ).loc main_v6_0) = (dats m 0 c).arrAt 7 cfg0.N
        ∧ r.2.mem ((c.tc : Thread nD τ).loc main_v6_1) = (dats m 0 c).arrAt 8 cfg0.N) ∧ ArgsKept m r c) ∧ r.2.sem = fun _ => 0) :=
  (θ_run defs _ _).mono (fun r h => ⟨fun c => ⟨⟨(h.1 c).1 7, (h.1 c).1 8⟩,
    ((h.1 c).1 0).trans (((dats m 0 c).arrAt_in 0 rfl _).trans ((A_eq m c 0).trans (V_kept m c main_arg0 (by decide)))),
    ((h.1 c).1 1).trans (((dats m 0 c).arrAt_in 1 rfl _).trans ((A_eq m c 1).trans (V_kept m c main_arg1 (by decide)))),
    ((h.1 c).1 2).trans (((dats m 0 c).arrAt_in 2 rfl _).trans ((A_eq m c 2).trans (V_kept m c main_arg2 (by decide)))),
    ((h.1 c).2 main_arg3 (by decide : main_arg3 ∈ Pipeline.restRefs sig spec0)).trans (V_kept m c main_arg3 (by decide)),
    ((h.1 c).1 4).trans (((dats m 0 c).arrAt_in 4 rfl _).trans ((A_eq m c 4).trans (V_kept m c main_arg4 (by decide)))),
    ((h.1 c).1 5).trans (((dats m 0 c).arrAt_in 5 rfl _).trans ((A_eq m c 5).trans (V_kept m c main_arg5 (by decide))))⟩, h.2⟩) (run m ρ)

/-- The frame: the call terminates without a fault, its arguments end unchanged, its semaphores are at zero. -/
theorem frame : θ_run defs (onTc (τ := τ) (main (F := F))) ⟨m, fun _ => 0, ρ⟩
    (fun r => (∀ c : Dev nD, ArgsKept m r c) ∧ r.2.sem = fun _ => 0) :=
  (θ_run defs _ _).mono (fun _ h => ⟨fun c => (h.1 c).2, h.2⟩) (run_results m ρ)

end Cert.NormProj

end
-- ==== Proof.OutBlock.lean ====
module

public import proofs.«01_k».proof.Proof.Gen.Kernel4Ideal.Value
public import Idealize.ShloMosaic.Lib.Pointwise
public import Idealize.ShloMosaic.Lib.Pipeline.ValueKit
public import Idealize.ShloMosaic.PureOps.Ideal.Laws

/-! The output projection of the even layers: what the call leaves in its result, entry by entry. -/

@[expose] public section

set_option maxRecDepth 16384

noncomputable section

namespace Cert.OutProj

open Cert.Kernel4Ideal Cert.Kernel4Ideal.Gen Idealize.ShloMosaic Idealize.ShloMosaic.TcCoe Idealize.SL.Sem

/-- The modulation row of an activation row: its batch's for a latent row, the seventeenth for a context row. -/
def modRow (t : Fin 36864) : Fin 17 := ⟨min (t.val / 2048) 16, by omega⟩

/-- One entry of the projection: the residual plus the gate times the product of the row (the attention's 1536 lanes, then
the 512 lanes of the Fourier mixing) with a column of the weights. -/
def entry (a : S36864x1536.Idx → EReal) (f : S36864x512.Idx → EReal) (w : S2048x2048.Idx → EReal)
    (x : S36864x2048.Idx → EReal) (mod : S17x6x2048.Idx → EReal) (t : Fin 36864) (d : Fin 2048) : EReal :=
  x (ix2 t d) + mod (ix3 (modRow t) 2 d) *
    (∑ k : Fin 1536, a (ix2 t k) * w (ix2 ⟨k.val, by omega⟩ d) + ∑ k : Fin 512, f (ix2 t k) * w (ix2 ⟨1536 + k.val, by omega⟩ d))

/-- What the body computes of one block, at an entry. -/
theorem pay1_apply (v0 : Vec Ideal S512x1536 .bf16) (v1 : Vec Ideal S1536x2048 .bf16) (v4 : Vec Ideal S512x512 .bf16)
    (v5 : Vec Ideal S512x2048 .bf16) (v9 : Vec Ideal S512x2048 .f32) (v10 : Vec Ideal S1x1x2048 .f32) (r : Fin 512) (d : Fin 2048) :
    k0_pay1 (F := Ideal) v0 v1 v4 v5 v9 v10 (ix2 r d) = v9 (ix2 r d) + v10 (ix3 0 0 d) *
      (∑ k : Fin 1536, v0 (ix2 r k) * v1 (ix2 k d) + ∑ k : Fin 512, v4 (ix2 r k) * v5 (ix2 k d)) := by
  pointwise [k0_pay1]

variable (m : (ℓ : Loc nD τ sig) → Buf (Elt Ideal) ℓ) (c : Dev nD) (t : Fin cfg0.N)

/-- The two parts of the weights that the host hands to the call. -/
theorem V_w1 (k : Fin 1536) (d : Fin 2048) : V m c main_v1 (ix2 k d)
    = m ((c : Thread nD τ).loc main_arg2) (ix2 ⟨k.val, by omega⟩ d) := by
  have e : V m c main_v1 = extractStridedSlice S1536x2048 ![0, 0]
      (m ((c : Thread nD τ).loc main_arg2) : S2048x2048.Idx → EReal) slices_S2048x2048_S1536x2048_0_0 := by
    show StableHlo.after hostOps0 (fun b => m (c, b)) (Proc.devRef .tc main_v1) = _
    simp only [hostOps0, StableHlo.after_cons, StableHlo.after_nil]
    refine (StableHlo.unary_result_ne main_v0 main_v2 _ _ _ _ (show main_v1 ≠ main_v2 by decide)).trans
      ((StableHlo.unary_result main_v0 main_v1 _ _ _ _).trans ?_)
    rw [StableHlo.unary_result main_arg2 main_v0]
    rfl
  rw [e]
  generalize m ((c : Thread nD τ).loc main_arg2) = w
  exact extractStridedSlice_apply ![0, 0] w slices_S2048x2048_S1536x2048_0_0 (ix2 k d) (ix2 ⟨k.val, by omega⟩ d) (fun a => match a with
    | ⟨0, _⟩ => by show k.val = 0 + k.val; omega
    | ⟨1, _⟩ => by show d.val = 0 + d.val; omega)
theorem V_w2 (k : Fin 512) (d : Fin 2048) : V m c main_v2 (ix2 k d)
    = m ((c : Thread nD τ).loc main_arg2) (ix2 ⟨1536 + k.val, by omega⟩ d) := by
  have e : V m c main_v2 = extractStridedSlice S512x2048 ![1536, 0]
      (m ((c : Thread nD τ).loc main_arg2) : S2048x2048.Idx → EReal) slices_S2048x2048_S512x2048_1536_0 := by
    show StableHlo.after hostOps0 (fun b => m (c, b)) (Proc.devRef .tc main_v2) = _
    simp only [hostOps0, StableHlo.after_cons, StableHlo.after_nil]
    refine (StableHlo.unary_result main_v0 main_v2 _ _ _ _).trans ?_
    rw [StableHlo.unary_result_ne main_v0 main_v1 _ _ _ _ (show main_v0 ≠ main_v1 by decide), StableHlo.unary_result main_arg2 main_v0]
    rfl
  rw [e]
  generalize m ((c : Thread nD τ).loc main_arg2) = w
  exact extractStridedSlice_apply ![1536, 0] w slices_S2048x2048_S512x2048_1536_0 (ix2 k d) (ix2 ⟨1536 + k.val, by omega⟩ d) (fun a => match a with
    | ⟨0, _⟩ => by show 1536 + k.val = 1536 + k.val; omega
    | ⟨1, _⟩ => by show d.val = 0 + d.val; omega)

/-- The block indices of the windows at the grid's points. -/
theorem idx_rows : ∀ t : Fin cfg0.N, (win0_0.index t 0 = t.val ∧ win0_0.index t 1 = 0) ∧ (win0_1.index t 0 = t.val ∧ win0_1.index t 1 = 0)
    ∧ (win0_4.index t 0 = t.val ∧ win0_4.index t 1 = 0) ∧ (win0_6.index t 0 = t.val ∧ win0_6.index t 1 = 0) :=
  (by decide +kernel : ∀ t : Fin grid0.N, (win0_0.index t 0 = t.val ∧ win0_0.index t 1 = 0) ∧ (win0_1.index t 0 = t.val ∧ win0_1.index t 1 = 0)
    ∧ (win0_4.index t 0 = t.val ∧ win0_4.index t 1 = 0) ∧ (win0_6.index t 0 = t.val ∧ win0_6.index t 1 = 0))
theorem idx_weights : ∀ t : Fin cfg0.N, (win0_2.index t 0 = 0 ∧ win0_2.index t 1 = 0) ∧ (win0_3.index t 0 = 0 ∧ win0_3.index t 1 = 0)
    ∧ (win0_5.index t 0 = min (t.val / 4) 16 ∧ win0_5.index t 1 = 0 ∧ win0_5.index t 2 = 0) :=
  (by decide +kernel : ∀ t : Fin grid0.N, (win0_2.index t 0 = 0 ∧ win0_2.index t 1 = 0) ∧ (win0_3.index t 0 = 0 ∧ win0_3.index t 1 = 0)
    ∧ (win0_5.index t 0 = min (t.val / 4) 16 ∧ win0_5.index t 1 = 0 ∧ win0_5.index t 2 = 0))

/-- Row `r` of the block of a grid point. -/
def rowOf (r : Fin 512) : Fin 36864 := ⟨t.val * 512 + r.val, by have h : t.val < 72 := t.isLt.trans_eq (by decide +kernel); omega⟩

theorem rd0 (r : Fin 512) (k : Fin 1536) : iblk m c 0 t (ix2 r k) = m ((c : Thread nD τ).loc main_arg0) (ix2 (rowOf t r) k) := by
  show V m c main_arg0 (((cfg0.win 0).blk t).view.emb (ix2 r k)) = _
  rw [V_main_arg0]
  refine congrArg _ (funext fun a => Fin.ext ?_)
  have e := idx_rows t
  match a with
  | ⟨0, _⟩ => show win0_0.index t 0 * 512 + 1 * r.val = t.val * 512 + r.val; omega
  | ⟨1, _⟩ => show win0_0.index t 1 * 1536 + 1 * k.val = k.val; omega
theorem rd1 (r : Fin 512) (k : Fin 512) : iblk m c 1 t (ix2 r k) = m ((c : Thread nD τ).loc main_arg1) (ix2 (rowOf t r) k) := by
  show V m c main_arg1 (((cfg0.win 1).blk t).view.emb (ix2 r k)) = _
  rw [V_main_arg1]
  refine congrArg _ (funext fun a => Fin.ext ?_)
  have e := idx_rows t
  match a with
  | ⟨0, _⟩ => show win0_1.index t 0 * 512 + 1 * r.val = t.val * 512 + r.val; omega
  | ⟨1, _⟩ => show win0_1.index t 1 * 512 + 1 * k.val = k.val; omega
theorem rd2 (k : Fin 1536) (d : Fin 2048) : iblk m c 2 t (ix2 k d) = m ((c : Thread nD τ).loc main_arg2) (ix2 ⟨k.val, by omega⟩ d) := by
  refine Eq.trans ?_ (V_w1 m c k d)
  show V m c main_v1 (((cfg0.win 2).blk t).view.emb (ix2 k d)) = _
  refine congrArg _ (funext fun a => Fin.ext ?_)
  have e := idx_weights t
  match a with
  | ⟨0, _⟩ => show win0_2.index t 0 * 1536 + 1 * k.val = k.val; omega
  | ⟨1, _⟩ => show win0_2.index t 1 * 2048 + 1 * d.val = d.val; omega
theorem rd3 (k : Fin 512) (d : Fin 2048) : iblk m c 3 t (ix2 k d) = m ((c : Thread nD τ).loc main_arg2) (ix2 ⟨1536 + k.val, by omega⟩ d) := by
  refine Eq.trans ?_ (V_w2 m c k d)
  show V m c main_v2 (((cfg0.win 3).blk t).view.emb (ix2 k d)) = _
  refine congrArg _ (funext fun a => Fin.ext ?_)
  have e := idx_weights t
  match a with
  | ⟨0, _⟩ => show win0_3.index t 0 * 512 + 1 * k.val = k.val; omega
  | ⟨1, _⟩ => show win0_3.index t 1 * 2048 + 1 * d.val = d.val; omega
theorem rd4 (r : Fin 512) (d : Fin 2048) : iblk m c 4 t (ix2 r d) = m ((c : Thread nD τ).loc main_arg3) (ix2 (rowOf t r) d) := by
  show V m c main_arg3 (((cfg0.win 4).blk t).view.emb (ix2 r d)) = _
  rw [V_main_arg3]
  refine congrArg _ (funext fun a => Fin.ext ?_)
  have e := idx_rows t
  match a with
  | ⟨0, _⟩ => show win0_4.index t 0 * 512 + 1 * r.val = t.val * 512 + r.val; omega
  | ⟨1, _⟩ => show win0_4.index t 1 * 2048 + 1 * d.val = d.val; omega
theorem rd5 (r : Fin 512) (d : Fin 2048) : iblk m c 5 t (ix3 0 2 d) = m ((c : Thread nD τ).loc main_arg4) (ix3 (modRow (rowOf t r)) 2 d) := by
  show V m c main_arg4 (((cfg0.win 5).blk t).view.emb (ix3 0 2 d)) = _
  rw [V_main_arg4]
  refine congrArg _ (funext fun a => Fin.ext ?_)
  have e := idx_weights t
  match a with
  | ⟨0, _⟩ => show win0_5.index t 0 * 1 + 1 * 0 = min ((t.val * 512 + r.val) / 2048) 16; omega
  | ⟨1, _⟩ => show win0_5.index t 1 * 6 + 1 * 2 = 2; omega
  | ⟨2, _⟩ => show win0_5.index t 2 * 2048 + 1 * d.val = d.val; omega

/-- The load of the gates reads row 2 of the modulation block. -/
theorem gates (b : Vec Ideal S1x6x2048 .f32) (d : Fin 2048) : View.ld b r0_4 (ix3 0 0 d) = b (ix3 0 2 d) := by
  refine congrArg b (funext fun a => Fin.ext ?_)
  match a with
  | ⟨0, _⟩ => rfl
  | ⟨1, _⟩ => rfl
  | ⟨2, _⟩ => show 0 + 1 * d.val = d.val; omega

/-- What grid point `t` leaves in the output block, at an entry. -/
theorem block (r : Fin 512) (d : Fin 2048) :
    out0_6 (iblk m c 0 t) (iblk m c 1 t) (iblk m c 2 t) (iblk m c 3 t) (iblk m c 4 t) (iblk m c 5 t) (ix2 r d)
      = entry (m ((c : Thread nD τ).loc main_arg0)) (m ((c : Thread nD τ).loc main_arg1)) (m ((c : Thread nD τ).loc main_arg2))
          (m ((c : Thread nD τ).loc main_arg3)) (m ((c : Thread nD τ).loc main_arg4)) (rowOf t r) d := by
  frame_out
  rw [pay1_apply]
  unfold entry
  refine congrArg₂ (· + ·) (rd4 m c t r d) (congrArg₂ (· * ·) ((gates _ d).trans (rd5 m c t r d))
    (congrArg₂ (· + ·) (Finset.sum_congr rfl fun k _ => congrArg₂ (· * ·) (rd0 m c t r k) (rd2 m c t k d))
      (Finset.sum_congr rfl fun k _ => congrArg₂ (· * ·) (rd1 m c t r k) (rd3 m c t k d))))

end Cert.OutProj
-- ==== Proof.NormBlock.lean ====
module

public import proofs.«01_k».proof.Proof.NormRun
public import proofs.«01_k».proof.Proof.OutBlock
public import Idealize.ShloMosaic.Lib.Pointwise
public import Idealize.ShloMosaic.Lib.Pipeline.Value
public import Idealize.ShloMosaic.Lib.Pipeline.ValueKit
public import Idealize.ShloMosaic.PureOps.Ideal.Laws

/-! The normalised input projection of the odd layers: what the call leaves in its two results, entry by entry. -/

@[expose] public section

set_option maxRecDepth 16384

noncomputable section

namespace Cert.NormProj

open Cert.Kernel3Ideal Cert.Kernel3Ideal.Gen Idealize.ShloMosaic Idealize.ShloMosaic.TcCoe Idealize.SL.Sem
open Cert.OutProj (modRow)

/-- One entry of a row over its root mean square. -/
def unit (x : S36864x2048.Idx → EReal) (t : Fin 36864) (k : Fin 2048) : EReal :=
  x (ix2 t k) * Ideal.rsqrt (Ideal.div (∑ j : Fin 2048, x (ix2 t j) * x (ix2 t j)) (Ideal.ofBits .f32 0x45000000#32)
    + Ideal.ofBits .f32 0x358637BD#32)

/-- One entry of a row normalised, weighted and modulated. -/
def normed (x : S36864x2048.Idx → EReal) (mod : S17x6x2048.Idx → EReal) (nw : S1x2048.Idx → EReal) (t : Fin 36864) (k : Fin 2048) : EReal :=
  unit x t k * nw (ix2 0 k) * (1 + mod (ix3 (modRow t) 1 k)) + mod (ix3 (modRow t) 0 k)

/-- One entry of the projection. -/
def entry (x : S36864x2048.Idx → EReal) (mod : S17x6x2048.Idx → EReal) (nw : S1x2048.Idx → EReal) (w : S2048x8256.Idx → EReal)
    (t : Fin 36864) (d : Fin 8256) : EReal := ∑ k : Fin 2048, normed x mod nw t k * w (ix2 k d)

/-- One entry of the gate logits: the projection's last 64 columns, then zeros. -/
def gateEntry (x : S36864x2048.Idx → EReal) (mod : S17x6x2048.Idx → EReal) (nw : S1x2048.Idx → EReal) (w : S2048x8256.Idx → EReal)
    (t : Fin 36864) (d : Fin 128) : EReal := if h : d.val < 64 then entry x mod nw w t ⟨8192 + d.val, by omega⟩ else 0

/-! ## What the body computes of its blocks -/

theorem pay1_apply (x : Vec Ideal S1024x2048 .f32) (nw : Vec Ideal S1x2048 .f32) (mod : Vec Ideal S1x6x2048 .f32) (r : Fin 1024) (k : Fin 2048) :
    k0_pay1 (F := Ideal) x nw mod (ix2 r k)
      = x (ix2 r k) * Ideal.rsqrt (Ideal.div (∑ j : Fin 2048, x (ix2 r j) * x (ix2 r j)) (Ideal.ofBits .f32 0x45000000#32)
          + Ideal.ofBits .f32 0x358637BD#32) * nw (ix2 0 k) * (1 + mod (ix3 0 1 k)) + mod (ix3 0 0 k) := by
  pointwise [k0_pay1]
theorem pay2_apply (u : Vec Ideal S1024x2048 .bf16) (w : Vec Ideal S2048x128 .bf16) (r : Fin 1024) (d : Fin 128) :
    k0_pay2 (F := Ideal) u w (ix2 r d) = ∑ k : Fin 2048, u (ix2 r k) * w (ix2 k d) := by
  pointwise [k0_pay2]
theorem pay3_apply (u : Vec Ideal S1024x2048 .bf16) (w : Vec Ideal S2048x1024 .bf16) (r : Fin 1024) (d : Fin 1024) :
    k0_pay3 (F := Ideal) u w (ix2 r d) = ∑ k : Fin 2048, u (ix2 r k) * w (ix2 k d) := by
  pointwise [k0_pay3]

variable (m : (ℓ : Loc nD τ sig) → Buf (Elt Ideal) ℓ) (c : Dev nD) (t : Fin cfg0.N)

/-! ## The weights that the host hands to the call -/

theorem V_w (k : Fin 2048) (d : Fin 8192) : V m c main_v1 (ix2 k d)
    = m ((c : Thread nD τ).loc main_arg3) (ix2 k ⟨d.val, by omega⟩) := by
  have e : V m c main_v1 = extractStridedSlice S2048x8192 ![0, 0]
      (m ((c : Thread nD τ).loc main_arg3) : S2048x8256.Idx → EReal) slices_S2048x8256_S2048x8192_0_0 := by
    show StableHlo.after hostOps0 (fun b => m (c, b)) (Proc.devRef .tc main_v1) = _
    simp (disch := decide) only [hostOps0, StableHlo.after_cons, StableHlo.after_nil, StableHlo.unary_result', StableHlo.binary_result',
      StableHlo.nullary_result', StableHlo.unary_result_ne', StableHlo.binary_result_ne', StableHlo.nullary_result_ne']
    rfl
  rw [e]
  generalize m ((c : Thread nD τ).loc main_arg3) = w
  exact extractStridedSlice_apply ![0, 0] w slices_S2048x8256_S2048x8192_0_0 (ix2 k d) (ix2 k ⟨d.val, by omega⟩) (fun a => match a with
    | ⟨0, _⟩ => by show k.val = 0 + k.val; omega
    | ⟨1, _⟩ => by show d.val = 0 + d.val; omega)

/-- The gate's columns and the zeros beside them. -/
theorem joined_apply (w : S2048x8256.Idx → EReal) (k : Fin 2048) (d : Fin 128) :
    concatenate S2048x128 1 [⟨S2048x64, extractStridedSlice S2048x64 ![0, 8192] w slices_S2048x8256_S2048x64_0_8192⟩,
        ⟨S2048x64, broadcastInDim S2048x64 ![] bcast_S_S2048x64 (constant (F := Ideal) S_ .f32 0x00000000#32)⟩]
        concatenates_S2048x64_S2048x64_S2048x128_d1 (ix2 k d)
      = if h : d.val < 64 then w (ix2 k ⟨8192 + d.val, by omega⟩) else 0 := by
  pointwise

theorem V_gate (k : Fin 2048) (d : Fin 128) : V m c main_v5 (ix2 k d)
    = if h : d.val < 64 then m ((c : Thread nD τ).loc main_arg3) (ix2 k ⟨8192 + d.val, by omega⟩) else (0 : EReal) := by
  refine Eq.trans ?_ (joined_apply (m ((c : Thread nD τ).loc main_arg3)) k d)
  refine congrFun ?_ (ix2 k d)
  show StableHlo.after hostOps0 (fun b => m (c, b)) (Proc.devRef .tc main_v5) = _
  simp (disch := decide) only [hostOps0, StableHlo.after_cons, StableHlo.after_nil, StableHlo.unary_result', StableHlo.binary_result',
    StableHlo.nullary_result', StableHlo.unary_result_ne', StableHlo.binary_result_ne', StableHlo.nullary_result_ne']
  rfl

/-! ## The blocks -/

/-- The block indices of the windows at the grid's points. -/
theorem idx_in : ∀ t : Fin cfg0.N, (win0_0.index t 0 = t.val / 8 ∧ win0_0.index t 1 = 0)
    ∧ (win0_1.index t 0 = min (t.val / 16) 16 ∧ win0_1.index t 1 = 0 ∧ win0_1.index t 2 = 0)
    ∧ (win0_2.index t 0 = 0 ∧ win0_2.index t 1 = 0) ∧ (win0_3.index t 0 = 0 ∧ win0_3.index t 1 = t.val % 8)
    ∧ (win0_6.index t 0 = 0 ∧ win0_6.index t 1 = 0) :=
  (by decide +kernel : ∀ t : Fin grid0.N, (win0_0.index t 0 = t.val / 8 ∧ win0_0.index t 1 = 0)
    ∧ (win0_1.index t 0 = min (t.val / 16) 16 ∧ win0_1.index t 1 = 0 ∧ win0_1.index t 2 = 0)
    ∧ (win0_2.index t 0 = 0 ∧ win0_2.index t 1 = 0) ∧ (win0_3.index t 0 = 0 ∧ win0_3.index t 1 = t.val % 8)
    ∧ (win0_6.index t 0 = 0 ∧ win0_6.index t 1 = 0))
theorem idx_out : ∀ t : Fin cfg0.N, (win0_7.index t 0 = t.val / 8 ∧ win0_7.index t 1 = t.val % 8)
    ∧ (win0_8.index t 0 = t.val / 8 ∧ win0_8.index t 1 = 0) :=
  (by decide +kernel : ∀ t : Fin grid0.N, (win0_7.index t 0 = t.val / 8 ∧ win0_7.index t 1 = t.val % 8)
    ∧ (win0_8.index t 0 = t.val / 8 ∧ win0_8.index t 1 = 0))

theorem lt_points : t.val < 288 := t.isLt.trans_eq (by decide +kernel)

/-- Row `r` of the row tile of a grid point, and column `d` of its tile of the weights. -/
def rowOf (r : Fin 1024) : Fin 36864 := ⟨t.val / 8 * 1024 + r.val, by have := lt_points t; omega⟩
def colOf (d : Fin 1024) : Fin 8192 := ⟨t.val % 8 * 1024 + d.val, by omega⟩

theorem rowOf_first (r : Fin 1024) : rowOf (first t) r = rowOf t r :=
  Fin.ext (show t.val / 8 * 8 / 8 * 1024 + r.val = t.val / 8 * 1024 + r.val by omega)

theorem rd0 (r : Fin 1024) (k : Fin 2048) : iblk m c 0 t (ix2 r k) = m ((c : Thread nD τ).loc main_arg0) (ix2 (rowOf t r) k) := by
  show V m c main_arg0 (((cfg0.win 0).blk t).view.emb (ix2 r k)) = _
  rw [V_kept m c main_arg0 (by decide)]
  refine congrArg _ (funext fun a => Fin.ext ?_)
  have e := idx_in t
  match a with
  | ⟨0, _⟩ => show win0_0.index t 0 * 1024 + 1 * r.val = t.val / 8 * 1024 + r.val; omega
  | ⟨1, _⟩ => show win0_0.index t 1 * 2048 + 1 * k.val = k.val; omega
theorem rd1 (r : Fin 1024) (j : Fin 6) (k : Fin 2048) :
    iblk m c 1 t (ix3 0 j k) = m ((c : Thread nD τ).loc main_arg1) (ix3 (modRow (rowOf t r)) j k) := by
  show V m c main_arg1 (((cfg0.win 1).blk t).view.emb (ix3 0 j k)) = _
  rw [V_kept m c main_arg1 (by decide)]
  refine congrArg _ (funext fun a => Fin.ext ?_)
  have e := idx_in t
  match a with
  | ⟨0, _⟩ => show win0_1.index t 0 * 1 + 1 * 0 = min ((t.val / 8 * 1024 + r.val) / 2048) 16; omega
  | ⟨1, _⟩ => show win0_1.index t 1 * 6 + 1 * j.val = j.val; omega
  | ⟨2, _⟩ => show win0_1.index t 2 * 2048 + 1 * k.val = k.val; omega
theorem rd2 (k : Fin 2048) : iblk m c 2 t (ix2 0 k) = m ((c : Thread nD τ).loc main_arg2) (ix2 0 k) := by
  show V m c main_arg2 (((cfg0.win 2).blk t).view.emb (ix2 0 k)) = _
  rw [V_kept m c main_arg2 (by decide)]
  refine congrArg _ (funext fun a => Fin.ext ?_)
  have e := idx_in t
  match a with
  | ⟨0, _⟩ => show win0_2.index t 0 * 1 + 1 * 0 = 0; omega
  | ⟨1, _⟩ => show win0_2.index t 1 * 2048 + 1 * k.val = k.val; omega
theorem rd3 (k : Fin 2048) (d : Fin 1024) : iblk m c 3 t (ix2 k d)
    = m ((c : Thread nD τ).loc main_arg3) (ix2 k ⟨(colOf t d).val, by omega⟩) := by
  refine Eq.trans ?_ (V_w m c k (colOf t d))
  show V m c main_v1 (((cfg0.win 3).blk t).view.emb (ix2 k d)) = _
  refine congrArg _ (funext fun a => Fin.ext ?_)
  have e := idx_in t
  match a with
  | ⟨0, _⟩ => show win0_3.index t 0 * 2048 + 1 * k.val = k.val; omega
  | ⟨1, _⟩ => show win0_3.index t 1 * 1024 + 1 * d.val = t.val % 8 * 1024 + d.val; omega
theorem rd6 (k : Fin 2048) (d : Fin 128) : iblk m c 6 t (ix2 k d)
    = if h : d.val < 64 then m ((c : Thread nD τ).loc main_arg3) (ix2 k ⟨8192 + d.val, by omega⟩) else (0 : EReal) := by
  refine Eq.trans ?_ (V_gate m c k d)
  show V m c main_v5 (((cfg0.win 6).blk t).view.emb (ix2 k d)) = _
  refine congrArg _ (funext fun a => Fin.ext ?_)
  have e := idx_in t
  match a with
  | ⟨0, _⟩ => show win0_6.index t 0 * 2048 + 1 * k.val = k.val; omega
  | ⟨1, _⟩ => show win0_6.index t 1 * 128 + 1 * d.val = d.val; omega

/-- The scratch's rows of a tile. -/
theorem rows_apply (r : Fin 1024) (k : Fin 2048) : rows m c (first t) (ix2 r k)
    = normed (m ((c : Thread nD τ).loc main_arg0)) (m ((c : Thread nD τ).loc main_arg1)) (m ((c : Thread nD τ).loc main_arg2)) (rowOf t r) k := by
  refine (pay1_apply _ _ _ r k).trans ?_
  unfold normed unit
  rw [← rowOf_first]
  generalize first t = s
  refine congrArg₂ (· + ·) (congrArg₂ (· * ·) (congrArg₂ (· * ·) (congrArg₂ (· * ·) (rd0 m c s r k) (congrArg Ideal.rsqrt
    (congrArg (· + Ideal.ofBits .f32 0x358637BD#32) (congrArg (Ideal.div · (Ideal.ofBits .f32 0x45000000#32))
      (Finset.sum_congr rfl fun j _ => congrArg₂ (· * ·) (rd0 m c s r j) (rd0 m c s r j)))))) (rd2 m c s k))
    (congrArg (1 + ·) (rd1 m c s r 1 k))) (rd1 m c s r 0 k)

/-- What grid point `t` leaves in the first output's block, at an entry. -/
theorem block7 (r : Fin 1024) (d : Fin 1024) : (dats m 0 c).after 7 t (ix2 r d)
    = entry (m ((c : Thread nD τ).loc main_arg0)) (m ((c : Thread nD τ).loc main_arg1)) (m ((c : Thread nD τ).loc main_arg2))
        (m ((c : Thread nD τ).loc main_arg3)) (rowOf t r) ⟨(colOf t d).val, by omega⟩ := by
  rw [after7]
  refine (pay3_apply _ _ r d).trans ?_
  unfold entry
  exact Finset.sum_congr rfl fun k _ => congrArg₂ (· * ·) (rows_apply m c t r k) (rd3 m c t k d)

/-- What grid point `t` leaves in the second output's block, at an entry. -/
theorem block8 (r : Fin 1024) (d : Fin 128) : (dats m 0 c).after 8 t (ix2 r d)
    = gateEntry (m ((c : Thread nD τ).loc main_arg0)) (m ((c : Thread nD τ).loc main_arg1)) (m ((c : Thread nD τ).loc main_arg2))
        (m ((c : Thread nD τ).loc main_arg3)) (rowOf t r) d := by
  rw [after8]
  refine (pay2_apply _ _ r d).trans ?_
  unfold gateEntry entry
  refine (Finset.sum_congr rfl fun k _ => congrArg₂ (· * ·) (rows_apply m c t r k) (rd6 m c (first t) k d)).trans ?_
  by_cases h : d.val < 64
  · simp only [dif_pos h]
  · simp only [dif_neg h, mul_zero, Finset.sum_const_zero]

/-! ## The arrays after the run -/

theorem disjoint7 : ∀ t t' : Fin cfg0.N, (cfg0.win 7).flush t = true → (cfg0.win 7).flush t' = true → t ≠ t' →
    Disjoint ((cfg0.win 7).blk t).view.set ((cfg0.win 7).blk t').view.set := by
  refine fun t t' _ _ hne => (cfg0.win 7).disjoint_blk fun h => hne (Fin.ext ?_)
  have e0 : win0_7.index t 0 = win0_7.index t' 0 := congrFun h 0
  have e1 : win0_7.index t 1 = win0_7.index t' 1 := congrFun h 1
  have e := (idx_out t).1
  have e' := (idx_out t').1
  omega
theorem disjoint8 : ∀ t t' : Fin cfg0.N, (cfg0.win 8).flush t = true → (cfg0.win 8).flush t' = true → t ≠ t' →
    Disjoint ((cfg0.win 8).blk t).view.set ((cfg0.win 8).blk t').view.set := by
  refine fun t t' hf hf' hne => (cfg0.win 8).disjoint_blk fun h => hne (Fin.ext ?_)
  have e0 : win0_8.index t 0 = win0_8.index t' 0 := congrFun h 0
  have e := (idx_out t).2
  have e' := (idx_out t').2
  have f := (flush0_8 t).mp hf
  have f' := (flush0_8 t').mp hf'
  omega

/-- The first result after the run, at an entry. -/
theorem kernel_apply (i : Fin 36864) (d : Fin 8192) : (dats m 0 c).arrAt 7 cfg0.N (ix2 i d)
    = entry (m ((c : Thread nD τ).loc main_arg0)) (m ((c : Thread nD τ).loc main_arg1)) (m ((c : Thread nD τ).loc main_arg2))
        (m ((c : Thread nD τ).loc main_arg3)) i ⟨d.val, by omega⟩ := by
  have hN : cfg0.N = 288 := by decide +kernel
  have ht : i.val / 1024 * 8 + d.val / 1024 < cfg0.N := by omega
  obtain ⟨s, hs⟩ : ∃ s : Fin cfg0.N, s.val = i.val / 1024 * 8 + d.val / 1024 := ⟨⟨_, ht⟩, rfl⟩
  have e := congrFun ((dats m 0 c).read_blk_arrAt_eq_flushed 7 disjoint7 cfg0.N s s.isLt (flush0_7 _))
    (ix2 ⟨i.val % 1024, by omega⟩ ⟨d.val % 1024, by omega⟩)
  have hi : rowOf s ⟨i.val % 1024, by omega⟩ = i := Fin.ext (show s.val / 8 * 1024 + i.val % 1024 = i.val by omega)
  have hd : (colOf s ⟨d.val % 1024, by omega⟩) = d := Fin.ext (show s.val % 8 * 1024 + d.val % 1024 = d.val by omega)
  refine Eq.trans ?_ ((e.trans (block7 m c s ⟨i.val % 1024, by omega⟩ ⟨d.val % 1024, by omega⟩)).trans (by simp only [hi, hd]))
  refine congrArg ((dats m 0 c).arrAt 7 cfg0.N) (funext fun a => Fin.ext ?_)
  have e0 : win0_7.index s 0 = s.val / 8 := (idx_out s).1.1
  have e1 : win0_7.index s 1 = s.val % 8 := (idx_out s).1.2
  match a with
  | ⟨0, _⟩ => show i.val = win0_7.index s 0 * 1024 + 1 * (i.val % 1024); omega
  | ⟨1, _⟩ => show d.val = win0_7.index s 1 * 1024 + 1 * (d.val % 1024); omega

/-- The second result after the run, at an entry. -/
theorem kernel_gate_apply (i : Fin 36864) (d : Fin 128) : (dats m 0 c).arrAt 8 cfg0.N (ix2 i d)
    = gateEntry (m ((c : Thread nD τ).loc main_arg0)) (m ((c : Thread nD τ).loc main_arg1)) (m ((c : Thread nD τ).loc main_arg2))
        (m ((c : Thread nD τ).loc main_arg3)) i d := by
  have hN : cfg0.N = 288 := by decide +kernel
  have ht : i.val / 1024 * 8 + 7 < cfg0.N := by omega
  obtain ⟨s, hs⟩ : ∃ s : Fin cfg0.N, s.val = i.val / 1024 * 8 + 7 := ⟨⟨_, ht⟩, rfl⟩
  have e := congrFun ((dats m 0 c).read_blk_arrAt_eq_flushed 8 disjoint8 cfg0.N s s.isLt ((flush0_8 s).mpr (by omega)))
    (ix2 ⟨i.val % 1024, by omega⟩ d)
  have hi : rowOf s ⟨i.val % 1024, by omega⟩ = i := Fin.ext (show s.val / 8 * 1024 + i.val % 1024 = i.val by omega)
  refine Eq.trans ?_ ((e.trans (block8 m c s ⟨i.val % 1024, by omega⟩ d)).trans (by rw [hi]))
  refine congrArg ((dats m 0 c).arrAt 8 cfg0.N) (funext fun a => Fin.ext ?_)
  have e0 : win0_8.index s 0 = s.val / 8 := (idx_out s).2.1
  have e1 : win0_8.index s 1 = 0 := (idx_out s).2.2
  match a with
  | ⟨0, _⟩ => show i.val = win0_8.index s 0 * 1024 + 1 * (i.val % 1024); omega
  | ⟨1, _⟩ => show d.val = win0_8.index s 1 * 128 + 1 * d.val; omega

end Cert.NormProj
-- ==== Proof.NormRef.lean ====
module

public import proofs.«01_k».proof.Proof.Gen.Reference3Ideal.Read
public import proofs.«01_k».proof.Proof.NormBlock

/-! The reference of the normalised input projection, entry by entry. -/

@[expose] public section

set_option maxRecDepth 16384

noncomputable section

namespace Cert.NormProj

open Cert.Reference3Ideal Cert.Reference3Ideal.Gen Cert.Reference3Ideal.Read Idealize.ShloMosaic Idealize.ShloMosaic.TcCoe Idealize.SL.Sem
open Cert.OutProj (modRow)

variable (x0 : (⟨S36864x2048, .f32⟩ : BufTy).Contents (Elt Ideal)) (x1 : (⟨S17x6x2048, .f32⟩ : BufTy).Contents (Elt Ideal))
  (x2 : (⟨S1x2048, .f32⟩ : BufTy).Contents (Elt Ideal)) (x3 : (⟨S2048x8256, .f32⟩ : BufTy).Contents (Elt Ideal)) (t : Fin 36864)

/-- The rows over their root mean squares, weighted. -/
theorem weighted_apply (k : Fin 2048) : val_main_v15 (F := Ideal) x0 x2 (ix2 t k) = unit x0 t k * x2 (ix2 0 k) := by
  unfold unit
  pointwise [val_main_v15, val_main_v14, val_main_v13, val_main_v12, val_main_v11, val_main_v10, val_main_v9, val_main_cst_1, val_main_v8,
    val_main_v7, val_main_cst_0, val_main_v6, val_main_v5, val_main_cst, val_main_v4]

/-- The scales, spread over the rows. -/
theorem scale_apply (d : Fin 2048) : val_main_v24 (F := Ideal) x1 (ix2 t d) = 1 + x1 (ix3 (modRow t) 1 d) := by
  pointwise [val_main_v24, val_main_v23, val_main_cst_2, val_main_v22, val_main_v21, val_main_v20, val_main_v19, val_main_v18, val_main_v17,
    val_main_v16, val_main_v3, val_main_v2]
  by_cases h : t.val < 32768
  · rw [dif_pos h]
    exact congrArg (fun b => 1 + x1 (ix3 b 1 d)) (Fin.ext (show t.val / 2048 = min (t.val / 2048) 16 by omega))
  · rw [dif_neg h]
    exact congrArg (fun b => 1 + x1 (ix3 b 1 d)) (Fin.ext (show 16 = min (t.val / 2048) 16 by omega))

/-- The shifts, spread over the rows. -/
theorem shift_apply (d : Fin 2048) : val_main_v32 (F := Ideal) x1 (ix2 t d) = x1 (ix3 (modRow t) 0 d) := by
  pointwise [val_main_v32, val_main_v31, val_main_v30, val_main_v29, val_main_v28, val_main_v27, val_main_v26, val_main_v1, val_main_v0]
  by_cases h : t.val < 32768
  · rw [dif_pos h]
    exact congrArg (fun b => x1 (ix3 b 0 d)) (Fin.ext (show t.val / 2048 = min (t.val / 2048) 16 by omega))
  · rw [dif_neg h]
    exact congrArg (fun b => x1 (ix3 b 0 d)) (Fin.ext (show 16 = min (t.val / 2048) 16 by omega))

/-- The modulated rows. -/
theorem modulated_apply (k : Fin 2048) : val_main_v33 (F := Ideal) x0 x1 x2 (ix2 t k) = normed x0 x1 x2 t k := by
  rw [val_main_v33_apply, val_main_v25_apply, weighted_apply, scale_apply, shift_apply]
  rfl

/-- The projection. -/
theorem product_apply (d : Fin 8256) : val_main_v34 (F := Ideal) x0 x1 x2 x3 (ix2 t d) = entry x0 x1 x2 x3 t d := by
  have e : val_main_v34 (F := Ideal) x0 x1 x2 x3 (ix2 t d) = ∑ k : Fin 2048, val_main_v33 (F := Ideal) x0 x1 x2 (ix2 t k) * x3 (ix2 k d) := by
    pointwise [val_main_v34]
  refine e.trans ?_
  unfold entry
  exact Finset.sum_congr rfl fun k _ => congrArg (· * x3 (ix2 k d)) (modulated_apply x0 x1 x2 t k)

/-- The first result. -/
theorem reference_apply (d : Fin 8192) : val_main_v36 (F := Ideal) x0 x1 x2 x3 (ix2 t d) = entry x0 x1 x2 x3 t ⟨d.val, by omega⟩ := by
  refine Eq.trans ?_ (product_apply x0 x1 x2 x3 t ⟨d.val, by omega⟩)
  pointwise [val_main_v36, val_main_v35]

/-- The second result. -/
theorem reference_gate_apply (d : Fin 128) : val_main_v38 (F := Ideal) x0 x1 x2 x3 (ix2 t d) = gateEntry x0 x1 x2 x3 t d := by
  have z : (FloatOps.sitofp (F := Ideal) .f32 (0#32 : BitVec 32) : EReal) = 0 := by
    show ((((0#32 : BitVec 32).toInt : ℤ) : ℝ) : EReal) = 0
    simp
  have e : val_main_v38 (F := Ideal) x0 x1 x2 x3 (ix2 t d)
      = if h : d.val < 64 then val_main_v34 (F := Ideal) x0 x1 x2 x3 (ix2 t ⟨8192 + d.val, by omega⟩)
        else (FloatOps.sitofp (F := Ideal) .f32 (0#32 : BitVec 32) : EReal) := by
    pointwise [val_main_v38, val_main_v37, val_main_call0_v0, val_main_c]
  rw [e, z]
  unfold gateEntry
  by_cases h : d.val < 64
  · rw [dif_pos h, dif_pos h]; exact product_apply x0 x1 x2 x3 t _
  · rw [dif_neg h, dif_neg h]

end Cert.NormProj
-- ==== Proof.NormClaim.lean ====
module

public import proofs.«01_k».proof.Defs
public import proofs.«01_k».proof.Proof.NormRef
public import proofs.«01_k».proof.Proof.Gen.Reference3Ideal.Run
public import proofs.«01_k».proof.Proof.Gen.Kernel3
public import Idealize.ShloMosaic.Adequacy
public import Idealize.ShloMosaic.Init
public import Idealize.ShloMosaic.Lib.Tactic

/-! The claims about the normalised input projection of the odd layers. -/

@[expose] public section

set_option maxRecDepth 16384

noncomputable section

namespace Cert.NormProj

open Cert.Kernel3Ideal Cert.Kernel3Ideal.Gen
open Idealize.ShloMosaic Idealize.ShloMosaic.TcCoe Idealize.ShloMosaic.Tactic Idealize.SL.Sem

/-- The ideal call runs and leaves its arguments and the semaphores as they were. -/
theorem frame_ideal : Cert.quiescent_Kernel3Ideal (hKernel3Ideal := Cert.Kernel3Ideal.Gen.facts) := fun m ρ _ => frame m ρ

theorem defs_same : Cert.Kernel3.defs (F := Bits) = Cert.Kernel3Ideal.defs (F := Bits) := by sl_kernel_rfl
theorem main_same : Cert.Kernel3.main (F := Bits) = Cert.Kernel3Ideal.main (F := Bits) := rfl

/-- The call over machine words has the ideal call's text: the same run. -/
theorem frame_bits : Cert.quiescent_Kernel3 (hKernel3 := Cert.Kernel3.Gen.facts) := by
  intro m ρ _
  rw [defs_same, main_same]
  exact frame (F := Bits) m ρ

/-- The reference runs and leaves its arguments and the semaphores as they were. -/
theorem frame_reference : Cert.quiescent_Reference3Ideal (hReference3Ideal := Cert.Reference3Ideal.Gen.facts) := by
  intro m ρ _
  exact (θ_run Cert.Reference3Ideal.defs _ _).mono (fun r h => ⟨fun c => (h c).2.2, sem_eq_zero_of_no_sems (by decide) r.2⟩)
    (Cert.Reference3Ideal.Value.run (F := Ideal) m ρ)

/-- The call and the reference compute the same function, in both results. -/
theorem algebraic : Cert.algebraic_Kernel3Ideal_Reference3Ideal (hKernel3Ideal := Cert.Kernel3Ideal.Gen.facts)
    (hReference3Ideal := Cert.Reference3Ideal.Gen.facts) := by
  intro m g m' g' _ hm
  refine ⟨fun c => (dats m 0 c).arrAt 7 cfg0.N, fun c => (dats m 0 c).arrAt 8 cfg0.N,
    (θ_run defs _ _).mono (fun r h c => ⟨(h.1 c).1.1, (h.1 c).1.2, (h.1 c).2⟩) (run_results m g), ?_⟩
  refine (θ_run Cert.Reference3Ideal.defs _ _).mono (fun r h c => ⟨?_, ?_, (h c).2.2⟩) (Cert.Reference3Ideal.Value.run (F := Ideal) m' g')
  · refine (h c).1.trans ((Cert.Reference3Ideal.Read.val_main_v36_eq (F := Ideal)
        (m' ((c : Thread Cert.Reference3Ideal.nD Cert.Reference3Ideal.τ).loc Cert.Reference3Ideal.main_arg0))
        (m' ((c : Thread Cert.Reference3Ideal.nD Cert.Reference3Ideal.τ).loc Cert.Reference3Ideal.main_arg1))
        (m' ((c : Thread Cert.Reference3Ideal.nD Cert.Reference3Ideal.τ).loc Cert.Reference3Ideal.main_arg2))
        (m' ((c : Thread Cert.Reference3Ideal.nD Cert.Reference3Ideal.τ).loc Cert.Reference3Ideal.main_arg3))).trans (funext fun y => ?_))
    rw [show y = ix2 (y 0) (y 1) from funext fun a => by match a with | ⟨0, _⟩ => rfl | ⟨1, _⟩ => rfl]
    refine (reference_apply _ _ _ _ (y 0) (y 1)).trans (Eq.trans ?_ (kernel_apply m c (y 0) (y 1)).symm)
    rw [(hm c).1, (hm c).2.1, (hm c).2.2.1, (hm c).2.2.2.1]
  · refine (h c).2.1.trans ((Cert.Reference3Ideal.Read.val_main_v38_eq (F := Ideal)
        (m' ((c : Thread Cert.Reference3Ideal.nD Cert.Reference3Ideal.τ).loc Cert.Reference3Ideal.main_arg0))
        (m' ((c : Thread Cert.Reference3Ideal.nD Cert.Reference3Ideal.τ).loc Cert.Reference3Ideal.main_arg1))
        (m' ((c : Thread Cert.Reference3Ideal.nD Cert.Reference3Ideal.τ).loc Cert.Reference3Ideal.main_arg2))
        (m' ((c : Thread Cert.Reference3Ideal.nD Cert.Reference3Ideal.τ).loc Cert.Reference3Ideal.main_arg3))).trans (funext fun y => ?_))
    rw [show y = ix2 (y 0) (y 1) from funext fun a => by match a with | ⟨0, _⟩ => rfl | ⟨1, _⟩ => rfl]
    refine (reference_gate_apply _ _ _ _ (y 0) (y 1)).trans (Eq.trans ?_ (kernel_gate_apply m c (y 0) (y 1)).symm)
    rw [(hm c).1, (hm c).2.1, (hm c).2.2.1, (hm c).2.2.2.1]

end Cert.NormProj
-- ==== Proof.OutRef.lean ====
module

public import proofs.«01_k».proof.Proof.Gen.Reference4Ideal.Read
public import Idealize.ShloMosaic.Lib.Pointwise
public import proofs.«01_k».proof.Proof.OutBlock

/-! The reference of the output projection, entry by entry. -/

@[expose] public section

set_option maxRecDepth 16384

noncomputable section

namespace Cert.OutProj

open Cert.Reference4Ideal Cert.Reference4Ideal.Gen Cert.Reference4Ideal.Read Idealize.ShloMosaic Idealize.ShloMosaic.TcCoe Idealize.SL.Sem

/-- The gates, spread over the rows. -/
theorem gate_apply (x4 : (⟨S17x6x2048, .f32⟩ : BufTy).Contents (Elt Ideal)) (t : Fin 36864) (d : Fin 2048) :
    val_main_v8 (F := Ideal) x4 (ix2 t d) = x4 (ix3 (modRow t) 2 d) := by
  pointwise [val_main_v8, val_main_v7, val_main_v6, val_main_v5, val_main_v4, val_main_v3, val_main_v2, val_main_v1, val_main_v0]
  by_cases h : t.val < 32768
  · rw [dif_pos h]
    exact congrArg (fun b => x4 (ix3 b 2 d)) (Fin.ext (show t.val / 2048 = min (t.val / 2048) 16 by omega))
  · rw [dif_neg h]
    exact congrArg (fun b => x4 (ix3 b 2 d)) (Fin.ext (show 16 = min (t.val / 2048) 16 by omega))

/-- The product of the joined row with the weights, as two sums. -/
theorem product_apply (x0 : (⟨S36864x1536, .bf16⟩ : BufTy).Contents (Elt Ideal)) (x1 : (⟨S36864x512, .bf16⟩ : BufTy).Contents (Elt Ideal))
    (x2 : (⟨S2048x2048, .f32⟩ : BufTy).Contents (Elt Ideal)) (t : Fin 36864) (d : Fin 2048) :
    val_main_v12 (F := Ideal) x0 x1 x2 (ix2 t d) = ∑ k : Fin 1536, x0 (ix2 t k) * x2 (ix2 ⟨k.val, by omega⟩ d)
      + ∑ k : Fin 512, x1 (ix2 t k) * x2 (ix2 ⟨1536 + k.val, by omega⟩ d) := by
  pointwise [val_main_v12, val_main_v11, val_main_v10, val_main_v9]

end Cert.OutProj
-- ==== Proof.OutClaim.lean ====
module

public import proofs.«01_k».proof.Defs
public import proofs.«01_k».proof.Proof.OutRef

/-! The claims about the output projection. -/

@[expose] public section

set_option maxRecDepth 16384

noncomputable section

namespace Cert.OutProj

open Cert.Kernel4Ideal Cert.Kernel4Ideal.Gen Idealize.ShloMosaic Idealize.ShloMosaic.TcCoe Idealize.SL.Sem

/-- The call's result array after the run, at an entry. -/
theorem kernel_apply (m : (ℓ : Loc nD τ sig) → Buf (Elt Ideal) ℓ) (c : Dev nD) (i : Fin 36864) (d : Fin 2048) :
    (dats m 0 c).arrAt 6 cfg0.N (ix2 i d)
      = entry (m ((c : Thread nD τ).loc main_arg0)) (m ((c : Thread nD τ).loc main_arg1)) (m ((c : Thread nD τ).loc main_arg2))
          (m ((c : Thread nD τ).loc main_arg3)) (m ((c : Thread nD τ).loc main_arg4)) i d := by
  have hN : cfg0.N = 72 := by decide +kernel
  have ht : i.val / 512 < cfg0.N := by omega
  have e := congrFun (Cert.Kernel4Ideal.Value.blocks6 m c ⟨_, ht⟩ (flush0_6 _)) (ix2 ⟨i.val % 512, by omega⟩ d)
  rw [Cert.Kernel4Ideal.Value.flushed6] at e
  have hi : rowOf ⟨i.val / 512, ht⟩ ⟨i.val % 512, by omega⟩ = i :=
    Fin.ext (show i.val / 512 * 512 + i.val % 512 = i.val by omega)
  refine Eq.trans ?_ ((e.trans (block m c ⟨_, ht⟩ ⟨i.val % 512, by omega⟩ d)).trans (by rw [hi]))
  refine congrArg ((dats m 0 c).arrAt 6 cfg0.N) (funext fun a => Fin.ext ?_)
  have e0 : win0_6.index ⟨i.val / 512, ht⟩ 0 = i.val / 512 := (idx_rows ⟨i.val / 512, ht⟩).2.2.2.1
  have e1 : win0_6.index ⟨i.val / 512, ht⟩ 1 = 0 := (idx_rows ⟨i.val / 512, ht⟩).2.2.2.2
  match a with
  | ⟨0, _⟩ => show i.val = win0_6.index ⟨i.val / 512, ht⟩ 0 * 512 + 1 * (i.val % 512); omega
  | ⟨1, _⟩ => show d.val = win0_6.index ⟨i.val / 512, ht⟩ 1 * 2048 + 1 * d.val; omega

/-- The reference's result at an entry. -/
theorem reference_apply (x0 : S36864x1536.Idx → EReal) (x1 : S36864x512.Idx → EReal) (x2 : S2048x2048.Idx → EReal)
    (x3 : S36864x2048.Idx → EReal) (x4 : S17x6x2048.Idx → EReal) (i : Fin 36864) (d : Fin 2048) :
    Cert.Reference4Ideal.Read.val_main_v14 (F := Ideal) x0 x1 x2 x3 x4 (ix2 i d) = entry x0 x1 x2 x3 x4 i d := by
  rw [Cert.Reference4Ideal.Read.val_main_v14_apply, Cert.Reference4Ideal.Read.val_main_v13_apply, gate_apply, product_apply]
  rfl

/-- The reference runs and leaves its arguments and the semaphores as they were. -/
theorem frame_reference : Cert.quiescent_Reference4Ideal (hReference4Ideal := Cert.Reference4Ideal.Gen.facts) := by
  intro m ρ _
  exact (θ_run Cert.Reference4Ideal.defs _ _).mono (fun r h => ⟨fun c => (h c).2, sem_eq_zero_of_no_sems (by decide) r.2⟩)
    (Cert.Reference4Ideal.Value.run (F := Ideal) m ρ)

/-- The call and the reference compute the same function. -/
theorem algebraic : Cert.algebraic_Kernel4Ideal_Reference4Ideal (hKernel4Ideal := Cert.Kernel4Ideal.Gen.facts)
    (hReference4Ideal := Cert.Reference4Ideal.Gen.facts) := by
  intro m g m' g' _ hm
  refine ⟨fun c => (dats m 0 c).arrAt 6 cfg0.N, Cert.Kernel4Ideal.Value.run_blocks m g, ?_⟩
  refine (θ_run Cert.Reference4Ideal.defs _ _).mono (fun r h c => ⟨?_, (h c).2⟩) (Cert.Reference4Ideal.Value.run (F := Ideal) m' g')
  refine (h c).1.trans ((Cert.Reference4Ideal.Read.val_main_v14_eq (F := Ideal)
      (m' ((c : Thread Cert.Reference4Ideal.nD Cert.Reference4Ideal.τ).loc Cert.Reference4Ideal.main_arg0))
      (m' ((c : Thread Cert.Reference4Ideal.nD Cert.Reference4Ideal.τ).loc Cert.Reference4Ideal.main_arg1))
      (m' ((c : Thread Cert.Reference4Ideal.nD Cert.Reference4Ideal.τ).loc Cert.Reference4Ideal.main_arg2))
      (m' ((c : Thread Cert.Reference4Ideal.nD Cert.Reference4Ideal.τ).loc Cert.Reference4Ideal.main_arg3))
      (m' ((c : Thread Cert.Reference4Ideal.nD Cert.Reference4Ideal.τ).loc Cert.Reference4Ideal.main_arg4))).trans (funext fun y => ?_))
  rw [show y = ix2 (y 0) (y 1) from funext fun a => by match a with | ⟨0, _⟩ => rfl | ⟨1, _⟩ => rfl]
  refine (reference_apply _ _ _ _ _ (y 0) (y 1)).trans (Eq.trans ?_ (kernel_apply m c (y 0) (y 1)).symm)
  rw [(hm c).1, (hm c).2.1, (hm c).2.2.1, (hm c).2.2.2.1, (hm c).2.2.2.2]

end Cert.OutProj
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Read
public import proofs.«01_k».proof.Proof.Gen.Pre_work_list
public import proofs.«01_k».proof.Proof.Gen.On_listed
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.AttnClaim
public import proofs.«01_k».proof.Proof.ExpertClaim
public import proofs.«01_k».proof.Proof.NormClaim
public import proofs.«01_k».proof.Proof.OutClaim
public import Idealize.ShloMosaic.Adequacy
public import Idealize.ShloMosaic.Init

@[expose] public section

noncomputable section

namespace Cert.Proof

open Idealize.ShloMosaic Idealize.SL.Sem Cert.Kernel

/-- The certificate. The windowed attention: the frames of the kernel, the ideal kernel and the reference, the named
constant, and the equality with the reference on the latent rows. The experts' products: the three frames and the
equality with the reference at the places that the list of work names. The odd layers' normalised input
projection: the three frames and the equality with the reference in both results. The even layers' output projection: the three
frames and the equality with the reference. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_work_list.Gen.facts,
  Cert.Attn.on_facts, Cert.On_listed.Gen.facts,
  fun m ρ _ => Cert.Kernel.Gen.frame m ρ, fun m ρ _ => Cert.KernelIdeal.Gen.frame m ρ, Cert.Attn.frame_reference,
  Cert.Experts.frame_bits, Cert.Experts.frame_ideal, Cert.Experts.frame_reference,
  Cert.NormProj.frame_bits, Cert.NormProj.frame_ideal, Cert.NormProj.frame_reference,
  fun m ρ _ => Cert.Kernel4.Gen.frame m ρ, fun m ρ _ => Cert.Kernel4Ideal.Gen.frame m ρ, Cert.OutProj.frame_reference,
  IdealRules.named_const.statement Cert.KernelIdeal.κ "mask" .f32 0xF149F2CA#32 ⊥ rfl, Cert.Attn.algebraic,
  trivial, Cert.Experts.algebraic, trivial, Cert.NormProj.algebraic, trivial, Cert.OutProj.algebraic⟩

end Cert.Proof

end
